-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S16384x2048 : Shape := ⟨2, ![16384, 2048]⟩
abbrev S64x2048 : Shape := ⟨2, ![64, 2048]⟩
abbrev S32x64x512 : Shape := ⟨3, ![32, 64, 512]⟩
abbrev S1024x2048 : Shape := ⟨2, ![1024, 2048]⟩
abbrev S2x64x512 : Shape := ⟨3, ![2, 64, 512]⟩
abbrev S64x1024 : Shape := ⟨2, ![64, 1024]⟩
abbrev S64x512 : Shape := ⟨2, ![64, 512]⟩
abbrev S1x64x512 : Shape := ⟨3, ![1, 64, 512]⟩
abbrev S4x16384 : Shape := ⟨2, ![4, 16384]⟩
abbrev S4x512 : Shape := ⟨2, ![4, 512]⟩
abbrev S_ : Shape := ⟨0, ![]⟩
abbrev S16 : Shape := ⟨1, ![16]⟩
abbrev S1x16 : Shape := ⟨2, ![1, 16]⟩
abbrev S2x16384 : Shape := ⟨2, ![2, 16384]⟩
abbrev S16384x2 : Shape := ⟨2, ![16384, 2]⟩

abbrev nBuf : Table → Nat
  | .hbm => 9
  | .local .tc .vmem => 5
  | .local .scVector .vmem => 2
  | _ => 0

abbrev bufTy : (tb : Table) → Fin (nBuf tb) → BufTy
  | .hbm, ⟨0, _⟩ => ⟨S16384x2048, .f32⟩
  | .hbm, ⟨1, _⟩ => ⟨S64x2048, .f32⟩
  | .hbm, ⟨2, _⟩ => ⟨S32x64x512, .f32⟩
  | .hbm, ⟨3, _⟩ => ⟨S4x16384, .f32⟩
  | .hbm, ⟨4, _⟩ => ⟨S2x16384, .f32⟩
  | .hbm, ⟨5, _⟩ => ⟨S16384x2, .f32⟩
  | .hbm, ⟨6, _⟩ => ⟨S16384x2, .i32⟩
  | .hbm, ⟨7, _⟩ => ⟨S2x16384, .f32⟩
  | .hbm, ⟨8, _⟩ => ⟨S16384x2, .f32⟩
  | .local .tc .vmem, ⟨0, _⟩ => ⟨S1024x2048, .f32⟩
  | .local .tc .vmem, ⟨1, _⟩ => ⟨S1024x2048, .f32⟩
  | .local .tc .vmem, ⟨2, _⟩ => ⟨S64x2048, .f32⟩
  | .local .tc .vmem, ⟨3, _⟩ => ⟨S2x64x512, .f32⟩
  | .local .tc .vmem, ⟨4, _⟩ => ⟨S2x64x512, .f32⟩
  | .local .scVector .vmem, ⟨0, _⟩ => ⟨S64x512, .f32⟩
  | .local .scVector .vmem, ⟨1, _⟩ => ⟨S4x512, .f32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v0_scv : Ref sig .scVector := ⟨.hbm, 2, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  let c0_i32_2_r0 : BitVec 32 := 0#32
  ![v1.toNat, 0, 0]
@[reducible] def k1_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k1_off2 (k1_t1 : Fin k1_t1_loop.trips) : Fin 2 → Nat :=
  let c0_i32_5 : BitVec 32 := 0#32
  let v10 : Index := Scalar.indexCast c0_i32_5
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v11 : Index := Scalar.indexCast v6
  ![0, v11.toNat]
def k1_off3 (k1_t1 : Fin k1_t1_loop.trips) : Fin 2 → Nat :=
  let c1_i32_7 : BitVec 32 := 1#32
  let v23 : Index := Scalar.indexCast c1_i32_7
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v24 : Index := Scalar.indexCast v6
  ![1, v24.toNat]
def k1_off4 (k1_t1 : Fin k1_t1_loop.trips) : Fin 2 → Nat :=
  let c2_i32_9 : BitVec 32 := 2#32
  let v36 : Index := Scalar.indexCast c2_i32_9
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v37 : Index := Scalar.indexCast v6
  ![2, v37.toNat]
def k1_off5 (k1_t1 : Fin k1_t1_loop.trips) : Fin 2 → Nat :=
  let c3_i32_10 : BitVec 32 := 3#32
  let v49 : Index := Scalar.indexCast c3_i32_10
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v50 : Index := Scalar.indexCast v6
  ![3, v50.toNat]
def k1_off6 (k1_t1 : Fin k1_t1_loop.trips) : Fin 2 → Nat :=
  let c4_i32_11 : BitVec 32 := 4#32
  let v62 : Index := Scalar.indexCast c4_i32_11
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v63 : Index := Scalar.indexCast v6
  ![4, v63.toNat]
def k1_off7 (k1_t1 : Fin k1_t1_loop.trips) : Fin 2 → Nat :=
  let c5_i32_12 : BitVec 32 := 5#32
  let v75 : Index := Scalar.indexCast c5_i32_12
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v76 : Index := Scalar.indexCast v6
  ![5, v76.toNat]
def k1_off8 (k1_t1 : Fin k1_t1_loop.trips) : Fin 2 → Nat :=
  let c6_i32_13 : BitVec 32 := 6#32
  let v88 : Index := Scalar.indexCast c6_i32_13
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v89 : Index := Scalar.indexCast v6
  ![6, v89.toNat]
def k1_off9 (k1_t1 : Fin k1_t1_loop.trips) : Fin 2 → Nat :=
  let c7_i32_14 : BitVec 32 := 7#32
  let v101 : Index := Scalar.indexCast c7_i32_14
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v102 : Index := Scalar.indexCast v6
  ![7, v102.toNat]
def k1_off10 (k1_t1 : Fin k1_t1_loop.trips) : Fin 2 → Nat :=
  let c8_i32_15 : BitVec 32 := 8#32
  let v114 : Index := Scalar.indexCast c8_i32_15
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v115 : Index := Scalar.indexCast v6
  ![8, v115.toNat]
def k1_off11 (k1_t1 : Fin k1_t1_loop.trips) : Fin 2 → Nat :=
  let c9_i32_16 : BitVec 32 := 9#32
  let v127 : Index := Scalar.indexCast c9_i32_16
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v128 : Index := Scalar.indexCast v6
  ![9, v128.toNat]
def k1_off12 (k1_t1 : Fin k1_t1_loop.trips) : Fin 2 → Nat :=
  let c10_i32_17 : BitVec 32 := 10#32
  let v140 : Index := Scalar.indexCast c10_i32_17
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v141 : Index := Scalar.indexCast v6
  ![10, v141.toNat]
def k1_off13 (k1_t1 : Fin k1_t1_loop.trips) : Fin 2 → Nat :=
  let c11_i32_18 : BitVec 32 := 11#32
  let v153 : Index := Scalar.indexCast c11_i32_18
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v154 : Index := Scalar.indexCast v6
  ![11, v154.toNat]
def k1_off14 (k1_t1 : Fin k1_t1_loop.trips) : Fin 2 → Nat :=
  let c12_i32_19 : BitVec 32 := 12#32
  let v166 : Index := Scalar.indexCast c12_i32_19
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v167 : Index := Scalar.indexCast v6
  ![12, v167.toNat]
def k1_off15 (k1_t1 : Fin k1_t1_loop.trips) : Fin 2 → Nat :=
  let c13_i32_20 : BitVec 32 := 13#32
  let v179 : Index := Scalar.indexCast c13_i32_20
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v180 : Index := Scalar.indexCast v6
  ![13, v180.toNat]
def k1_off16 (k1_t1 : Fin k1_t1_loop.trips) : Fin 2 → Nat :=
  let c14_i32_21 : BitVec 32 := 14#32
  let v192 : Index := Scalar.indexCast c14_i32_21
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v193 : Index := Scalar.indexCast v6
  ![14, v193.toNat]
def k1_off17 (k1_t1 : Fin k1_t1_loop.trips) : Fin 2 → Nat :=
  let c15_i32_22 : BitVec 32 := 15#32
  let v205 : Index := Scalar.indexCast c15_i32_22
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v206 : Index := Scalar.indexCast v6
  ![15, v206.toNat]
def k1_off18 (k1_t1 : Fin k1_t1_loop.trips) : Fin 2 → Nat :=
  let c16_i32_24 : BitVec 32 := 16#32
  let v218 : Index := Scalar.indexCast c16_i32_24
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v219 : Index := Scalar.indexCast v6
  ![16, v219.toNat]
def k1_off19 (k1_t1 : Fin k1_t1_loop.trips) : Fin 2 → Nat :=
  let c17_i32_25 : BitVec 32 := 17#32
  let v231 : Index := Scalar.indexCast c17_i32_25
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v232 : Index := Scalar.indexCast v6
  ![17, v232.toNat]
def k1_off20 (k1_t1 : Fin k1_t1_loop.trips) : Fin 2 → Nat :=
  let c18_i32_26 : BitVec 32 := 18#32
  let v244 : Index := Scalar.indexCast c18_i32_26
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v245 : Index := Scalar.indexCast v6
  ![18, v245.toNat]
def k1_off21 (k1_t1 : Fin k1_t1_loop.trips) : Fin 2 → Nat :=
  let c19_i32_27 : BitVec 32 := 19#32
  let v257 : Index := Scalar.indexCast c19_i32_27
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v258 : Index := Scalar.indexCast v6
  ![19, v258.toNat]
def k1_off22 (k1_t1 : Fin k1_t1_loop.trips) : Fin 2 → Nat :=
  let c20_i32_28 : BitVec 32 := 20#32
  let v270 : Index := Scalar.indexCast c20_i32_28
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v271 : Index := Scalar.indexCast v6
  ![20, v271.toNat]
def k1_off23 (k1_t1 : Fin k1_t1_loop.trips) : Fin 2 → Nat :=
  let c21_i32_29 : BitVec 32 := 21#32
  let v283 : Index := Scalar.indexCast c21_i32_29
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v284 : Index := Scalar.indexCast v6
  ![21, v284.toNat]
def k1_off24 (k1_t1 : Fin k1_t1_loop.trips) : Fin 2 → Nat :=
  let c22_i32_30 : BitVec 32 := 22#32
  let v296 : Index := Scalar.indexCast c22_i32_30
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v297 : Index := Scalar.indexCast v6
  ![22, v297.toNat]
def k1_off25 (k1_t1 : Fin k1_t1_loop.trips) : Fin 2 → Nat :=
  let c23_i32_31 : BitVec 32 := 23#32
  let v309 : Index := Scalar.indexCast c23_i32_31
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v310 : Index := Scalar.indexCast v6
  ![23, v310.toNat]
def k1_off26 (k1_t1 : Fin k1_t1_loop.trips) : Fin 2 → Nat :=
  let c24_i32_32 : BitVec 32 := 24#32
  let v322 : Index := Scalar.indexCast c24_i32_32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v323 : Index := Scalar.indexCast v6
  ![24, v323.toNat]
def k1_off27 (k1_t1 : Fin k1_t1_loop.trips) : Fin 2 → Nat :=
  let c25_i32_33 : BitVec 32 := 25#32
  let v335 : Index := Scalar.indexCast c25_i32_33
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v336 : Index := Scalar.indexCast v6
  ![25, v336.toNat]
def k1_off28 (k1_t1 : Fin k1_t1_loop.trips) : Fin 2 → Nat :=
  let c26_i32_34 : BitVec 32 := 26#32
  let v348 : Index := Scalar.indexCast c26_i32_34
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v349 : Index := Scalar.indexCast v6
  ![26, v349.toNat]
def k1_off29 (k1_t1 : Fin k1_t1_loop.trips) : Fin 2 → Nat :=
  let c27_i32_35 : BitVec 32 := 27#32
  let v361 : Index := Scalar.indexCast c27_i32_35
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v362 : Index := Scalar.indexCast v6
  ![27, v362.toNat]
def k1_off30 (k1_t1 : Fin k1_t1_loop.trips) : Fin 2 → Nat :=
  let c28_i32_36 : BitVec 32 := 28#32
  let v374 : Index := Scalar.indexCast c28_i32_36
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v375 : Index := Scalar.indexCast v6
  ![28, v375.toNat]
def k1_off31 (k1_t1 : Fin k1_t1_loop.trips) : Fin 2 → Nat :=
  let c29_i32_37 : BitVec 32 := 29#32
  let v387 : Index := Scalar.indexCast c29_i32_37
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v388 : Index := Scalar.indexCast v6
  ![29, v388.toNat]
def k1_off32 (k1_t1 : Fin k1_t1_loop.trips) : Fin 2 → Nat :=
  let c30_i32_38 : BitVec 32 := 30#32
  let v400 : Index := Scalar.indexCast c30_i32_38
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v401 : Index := Scalar.indexCast v6
  ![30, v401.toNat]
def k1_off33 (k1_t1 : Fin k1_t1_loop.trips) : Fin 2 → Nat :=
  let c31_i32_39 : BitVec 32 := 31#32
  let v413 : Index := Scalar.indexCast c31_i32_39
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v414 : Index := Scalar.indexCast v6
  ![31, v414.toNat]
def k1_off34 (k1_t1 : Fin k1_t1_loop.trips) : Fin 2 → Nat :=
  let c32_i32_41 : BitVec 32 := 32#32
  let v426 : Index := Scalar.indexCast c32_i32_41
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v427 : Index := Scalar.indexCast v6
  ![32, v427.toNat]
def k1_off35 (k1_t1 : Fin k1_t1_loop.trips) : Fin 2 → Nat :=
  let c33_i32_42 : BitVec 32 := 33#32
  let v439 : Index := Scalar.indexCast c33_i32_42
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v440 : Index := Scalar.indexCast v6
  ![33, v440.toNat]
def k1_off36 (k1_t1 : Fin k1_t1_loop.trips) : Fin 2 → Nat :=
  let c34_i32_43 : BitVec 32 := 34#32
  let v452 : Index := Scalar.indexCast c34_i32_43
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v453 : Index := Scalar.indexCast v6
  ![34, v453.toNat]
def k1_off37 (k1_t1 : Fin k1_t1_loop.trips) : Fin 2 → Nat :=
  let c35_i32_44 : BitVec 32 := 35#32
  let v465 : Index := Scalar.indexCast c35_i32_44
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v466 : Index := Scalar.indexCast v6
  ![35, v466.toNat]
def k1_off38 (k1_t1 : Fin k1_t1_loop.trips) : Fin 2 → Nat :=
  let c36_i32_45 : BitVec 32 := 36#32
  let v478 : Index := Scalar.indexCast c36_i32_45
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v479 : Index := Scalar.indexCast v6
  ![36, v479.toNat]
def k1_off39 (k1_t1 : Fin k1_t1_loop.trips) : Fin 2 → Nat :=
  let c37_i32_46 : BitVec 32 := 37#32
  let v491 : Index := Scalar.indexCast c37_i32_46
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v492 : Index := Scalar.indexCast v6
  ![37, v492.toNat]
def k1_off40 (k1_t1 : Fin k1_t1_loop.trips) : Fin 2 → Nat :=
  let c38_i32_47 : BitVec 32 := 38#32
  let v504 : Index := Scalar.indexCast c38_i32_47
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v505 : Index := Scalar.indexCast v6
  ![38, v505.toNat]
def k1_off41 (k1_t1 : Fin k1_t1_loop.trips) : Fin 2 → Nat :=
  let c39_i32_48 : BitVec 32 := 39#32
  let v517 : Index := Scalar.indexCast c39_i32_48
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v518 : Index := Scalar.indexCast v6
  ![39, v518.toNat]
def k1_off42 (k1_t1 : Fin k1_t1_loop.trips) : Fin 2 → Nat :=
  let c40_i32_49 : BitVec 32 := 40#32
  let v530 : Index := Scalar.indexCast c40_i32_49
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v531 : Index := Scalar.indexCast v6
  ![40, v531.toNat]
def k1_off43 (k1_t1 : Fin k1_t1_loop.trips) : Fin 2 → Nat :=
  let c41_i32_50 : BitVec 32 := 41#32
  let v543 : Index := Scalar.indexCast c41_i32_50
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v544 : Index := Scalar.indexCast v6
  ![41, v544.toNat]
def k1_off44 (k1_t1 : Fin k1_t1_loop.trips) : Fin 2 → Nat :=
  let c42_i32_51 : BitVec 32 := 42#32
  let v556 : Index := Scalar.indexCast c42_i32_51
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v557 : Index := Scalar.indexCast v6
  ![42, v557.toNat]
def k1_off45 (k1_t1 : Fin k1_t1_loop.trips) : Fin 2 → Nat :=
  let c43_i32_52 : BitVec 32 := 43#32
  let v569 : Index := Scalar.indexCast c43_i32_52
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v570 : Index := Scalar.indexCast v6
  ![43, v570.toNat]
def k1_off46 (k1_t1 : Fin k1_t1_loop.trips) : Fin 2 → Nat :=
  let c44_i32_53 : BitVec 32 := 44#32
  let v582 : Index := Scalar.indexCast c44_i32_53
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v583 : Index := Scalar.indexCast v6
  ![44, v583.toNat]
def k1_off47 (k1_t1 : Fin k1_t1_loop.trips) : Fin 2 → Nat :=
  let c45_i32_54 : BitVec 32 := 45#32
  let v595 : Index := Scalar.indexCast c45_i32_54
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v596 : Index := Scalar.indexCast v6
  ![45, v596.toNat]
def k1_off48 (k1_t1 : Fin k1_t1_loop.trips) : Fin 2 → Nat :=
  let c46_i32_55 : BitVec 32 := 46#32
  let v608 : Index := Scalar.indexCast c46_i32_55
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v609 : Index := Scalar.indexCast v6
  ![46, v609.toNat]
def k1_off49 (k1_t1 : Fin k1_t1_loop.trips) : Fin 2 → Nat :=
  let c47_i32_56 : BitVec 32 := 47#32
  let v621 : Index := Scalar.indexCast c47_i32_56
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v622 : Index := Scalar.indexCast v6
  ![47, v622.toNat]
def k1_off50 (k1_t1 : Fin k1_t1_loop.trips) : Fin 2 → Nat :=
  let c48_i32_57 : BitVec 32 := 48#32
  let v634 : Index := Scalar.indexCast c48_i32_57
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v635 : Index := Scalar.indexCast v6
  ![48, v635.toNat]
def k1_off51 (k1_t1 : Fin k1_t1_loop.trips) : Fin 2 → Nat :=
  let c49_i32_58 : BitVec 32 := 49#32
  let v647 : Index := Scalar.indexCast c49_i32_58
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v648 : Index := Scalar.indexCast v6
  ![49, v648.toNat]
def k1_off52 (k1_t1 : Fin k1_t1_loop.trips) : Fin 2 → Nat :=
  let c50_i32_59 : BitVec 32 := 50#32
  let v660 : Index := Scalar.indexCast c50_i32_59
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v661 : Index := Scalar.indexCast v6
  ![50, v661.toNat]
def k1_off53 (k1_t1 : Fin k1_t1_loop.trips) : Fin 2 → Nat :=
  let c51_i32_60 : BitVec 32 := 51#32
  let v673 : Index := Scalar.indexCast c51_i32_60
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v674 : Index := Scalar.indexCast v6
  ![51, v674.toNat]
def k1_off54 (k1_t1 : Fin k1_t1_loop.trips) : Fin 2 → Nat :=
  let c52_i32_61 : BitVec 32 := 52#32
  let v686 : Index := Scalar.indexCast c52_i32_61
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v687 : Index := Scalar.indexCast v6
  ![52, v687.toNat]
def k1_off55 (k1_t1 : Fin k1_t1_loop.trips) : Fin 2 → Nat :=
  let c53_i32_62 : BitVec 32 := 53#32
  let v699 : Index := Scalar.indexCast c53_i32_62
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v700 : Index := Scalar.indexCast v6
  ![53, v700.toNat]
def k1_off56 (k1_t1 : Fin k1_t1_loop.trips) : Fin 2 → Nat :=
  let c54_i32_63 : BitVec 32 := 54#32
  let v712 : Index := Scalar.indexCast c54_i32_63
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v713 : Index := Scalar.indexCast v6
  ![54, v713.toNat]
def k1_off57 (k1_t1 : Fin k1_t1_loop.trips) : Fin 2 → Nat :=
  let c55_i32_64 : BitVec 32 := 55#32
  let v725 : Index := Scalar.indexCast c55_i32_64
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v726 : Index := Scalar.indexCast v6
  ![55, v726.toNat]
def k1_off58 (k1_t1 : Fin k1_t1_loop.trips) : Fin 2 → Nat :=
  let c56_i32_65 : BitVec 32 := 56#32
  let v738 : Index := Scalar.indexCast c56_i32_65
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v739 : Index := Scalar.indexCast v6
  ![56, v739.toNat]
def k1_off59 (k1_t1 : Fin k1_t1_loop.trips) : Fin 2 → Nat :=
  let c57_i32_66 : BitVec 32 := 57#32
  let v751 : Index := Scalar.indexCast c57_i32_66
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v752 : Index := Scalar.indexCast v6
  ![57, v752.toNat]
def k1_off60 (k1_t1 : Fin k1_t1_loop.trips) : Fin 2 → Nat :=
  let c58_i32_67 : BitVec 32 := 58#32
  let v764 : Index := Scalar.indexCast c58_i32_67
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v765 : Index := Scalar.indexCast v6
  ![58, v765.toNat]
def k1_off61 (k1_t1 : Fin k1_t1_loop.trips) : Fin 2 → Nat :=
  let c59_i32_68 : BitVec 32 := 59#32
  let v777 : Index := Scalar.indexCast c59_i32_68
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v778 : Index := Scalar.indexCast v6
  ![59, v778.toNat]
def k1_off62 (k1_t1 : Fin k1_t1_loop.trips) : Fin 2 → Nat :=
  let c60_i32_69 : BitVec 32 := 60#32
  let v790 : Index := Scalar.indexCast c60_i32_69
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v791 : Index := Scalar.indexCast v6
  ![60, v791.toNat]
def k1_off63 (k1_t1 : Fin k1_t1_loop.trips) : Fin 2 → Nat :=
  let c61_i32_70 : BitVec 32 := 61#32
  let v803 : Index := Scalar.indexCast c61_i32_70
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v804 : Index := Scalar.indexCast v6
  ![61, v804.toNat]
def k1_off64 (k1_t1 : Fin k1_t1_loop.trips) : Fin 2 → Nat :=
  let c62_i32_71 : BitVec 32 := 62#32
  let v816 : Index := Scalar.indexCast c62_i32_71
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v817 : Index := Scalar.indexCast v6
  ![62, v817.toNat]
def k1_off65 (k1_t1 : Fin k1_t1_loop.trips) : Fin 2 → Nat :=
  let c63_i32_72 : BitVec 32 := 63#32
  let v829 : Index := Scalar.indexCast c63_i32_72
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v830 : Index := Scalar.indexCast v6
  ![63, v830.toNat]
def k1_off66 (k1_t1 : Fin k1_t1_loop.trips) : Fin 2 → Nat :=
  let c0_i32_75 : BitVec 32 := 0#32
  let v848 : Index := Scalar.indexCast c0_i32_75
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v849 : Index := Scalar.indexCast v6
  ![0, v849.toNat]
def k1_off67 (k1_t1 : Fin k1_t1_loop.trips) : Fin 2 → Nat :=
  let c1_i32_76 : BitVec 32 := 1#32
  let v854 : Index := Scalar.indexCast c1_i32_76
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v855 : Index := Scalar.indexCast v6
  ![1, v855.toNat]
def k1_off68 (k1_t1 : Fin k1_t1_loop.trips) : Fin 2 → Nat :=
  let c2_i32_77 : BitVec 32 := 2#32
  let v859 : Index := Scalar.indexCast c2_i32_77
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v860 : Index := Scalar.indexCast v6
  ![2, v860.toNat]
def k1_off69 (k1_t1 : Fin k1_t1_loop.trips) : Fin 2 → Nat :=
  let c3_i32_79 : BitVec 32 := 3#32
  let v866 : Index := Scalar.indexCast c3_i32_79
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v4 : BitVec 32 := Scalar.muli arg6 c1_i32_1
  let v5 : BitVec 32 := Scalar.addi c0_i32_2 v4
  let c16_i32 : BitVec 32 := 16#32
  let v6 : BitVec 32 := Scalar.muli v5 c16_i32
  let v867 : Index := Scalar.indexCast v6
  ![3, v867.toNat]
def k1_off70 (i : grid1.Coords) : Fin 2 → Nat :=
  let c0_i32_1_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S16384x2 : Shape := ⟨2, ![16384, 2]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S16384x2, .f32⟩
  | .hbm, ⟨5, _⟩ => ⟨S16384x2, .i32⟩
  | .hbm, ⟨6, _⟩ => ⟨S_, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384x1, .f32⟩
  | .hbm, ⟨12, _⟩ => ⟨S16384x2, .f32⟩
  | .hbm, ⟨13, _⟩ => ⟨S16384x2, .f32⟩
  | .hbm, ⟨14, _⟩ => ⟨S16384x2, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x2, .f32⟩
  | .hbm, ⟨19, _⟩ => ⟨S16384x2, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Rows.lean ====
/-
  One trip of the top-2 loop, written once. A trip looks at sixteen tokens. It walks the 64 experts in order and keeps,
  for each token, the greatest logit so far with its expert and the second greatest with its. The printed trip is the
  64 steps spelt out, cut into parts; here a step is ONE definition (`upd`), the walk over the experts ONE recursion
  (`rows`), and the printed trip is shown to be that walk followed by the four stores (`body_eq`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Top2

open Cert.KernelIdeal Cert.KernelIdeal.Gen

open Idealize.ShloMosaic
open Idealize.SL Idealize.SL.Sem

variable {F : FTy → Type} [FloatOps F]

/-- What the walk keeps for its sixteen tokens: the second greatest logit and its expert, the greatest and its expert. -/
structure St (F : FTy → Type) where
  second : FVec F S16 .f32
  secondi : IVec S16 32
  best : FVec F S16 .f32
  besti : IVec S16 32

/-- Before the first expert: both logits −∞, both experts 0. -/
def St.init : St F where
  second := broadcast S16 (Scalar.ofBits .f32 0xFF800000#32)
  secondi := broadcast S16 0#32
  best := broadcast S16 (Scalar.ofBits .f32 0xFF800000#32)
  besti := broadcast S16 0#32

/-- One expert's step: its sixteen logits `v` against what is kept. -/
def upd (col : BitVec 32) (v : FVec F S16 .f32) (s : St F) : St F where
  second := select (cmpf .ogt v s.best) s.best (maximumf s.second v)
  secondi := select (cmpf .ogt v s.best) s.besti (select (cmpf .ogt v s.second) (broadcast S16 col) s.secondi)
  best := maximumf s.best v
  besti := select (cmpf .ogt v s.best) (broadcast S16 col) s.besti

/-- The first of the trip's sixteen columns, as the program computes it. -/
def base (t : Fin k1_t1_loop.trips) : BitVec 32 :=
  Scalar.muli (Scalar.addi 0#32 (Scalar.muli (Scf.iv 0#32 1#32 t) 1#32)) 16#32

/-- The same, as an offset. -/
def col0 (t : Fin k1_t1_loop.trips) : Nat := (Scalar.indexCast (base t)).toNat

/-- Trip `t` starts at token `16 t` of the slab. -/
theorem col0_eq : ∀ t : Fin k1_t1_loop.trips, col0 t = 16 * t.val := by decide +kernel

/-- Where the sixteen logits of expert `e` lie in the tile's block, in trip `t`. -/
def off (e : Nat) (t : Fin k1_t1_loop.trips) : Fin 2 → Nat := ![e, col0 t]

/-- The loop has 32 trips. -/
theorem trips_eq : k1_t1_loop.trips = 32 := by decide +kernel

/-- The load of an expert's 16 logits is inside the slab. -/
theorem off_inb (e : Fin 64) (t : Fin k1_t1_loop.trips) : ∀ a, off e.val t a + S1x16.size a ≤ S64x512.size a := by
  intro a
  have ht : t.val < 32 := Nat.lt_of_lt_of_eq t.isLt trips_eq
  match a with
  | 0 => show e.val + 1 ≤ 64; omega
  | 1 => show col0 t + 16 ≤ 512; rw [col0_eq]; omega

/-- The operations of the vector subcore at grid point `i`. -/
abbrev EFF (F : FTy → Type) [FloatOps F] (i : grid1.Coords) : Type → Type :=
  TpuEff nD τ sig (Elt F) Λ₀ (.scVector ((i 0).castLE hcore1) ((i 1).castLE hsub1))

section Walk

variable {i : grid1.Coords}

variable (arg4 : Memref sig .scVector .vmem S64x512 .f32) (t : Fin k1_t1_loop.trips)

/-- Load expert `e`'s sixteen logits and take its step. -/
def row (e : Fin 64) (s : St F) : Prog (EFF F i) (St F) := do
  let v : Vec F S1x16 .f32 ← Prog.lift (.load arg4 (Rect.unit (s := S64x512) (off e.val t) S1x16.size (off_inb e t)).toLoadRect (View.loadsAt_vmem h_S1x16))
  pure (upd (BitVec.ofNat 32 e.val) (shapeCast S16 v shapeCasts_S1x16_S16) s)

/-- The steps of the experts of a list, in order. -/
def rows : List (Fin 64) → St F → Prog (EFF F i) (St F)
  | [], s => pure s
  | e :: l, s => row arg4 t e s >>= rows l

/-- A walk over two lists one after the other. -/
theorem rows_append (l l' : List (Fin 64)) (s : St F) :
    (rows (i := i) arg4 t (l ++ l') s) = rows arg4 t l s >>= rows arg4 t l' := by
  induction l generalizing s with
  | nil => rfl
  | cons e l ih =>
    show (row arg4 t e s >>= rows arg4 t (l ++ l')) = (row arg4 t e s >>= rows arg4 t l) >>= rows arg4 t l'
    rw [Prog.bind_assoc]; congr 1; funext s; exact ih s

end Walk

section Store

variable {i : grid1.Coords} (arg4 : Memref sig .scVector .vmem S64x512 .f32) (arg5 : Memref sig .scVector .vmem S4x512 .f32)
  (t : Fin k1_t1_loop.trips)

/-- The store of 16 results is inside the block of results. -/
theorem offO_inb (r : Fin 4) (t : Fin k1_t1_loop.trips) : ∀ a, off r.val t a + S1x16.size a ≤ S4x512.size a := by
  intro a
  have ht : t.val < 32 := Nat.lt_of_lt_of_eq t.isLt trips_eq
  match a with
  | 0 => show r.val + 1 ≤ 4; omega
  | 1 => show col0 t + 16 ≤ 512; rw [col0_eq]; omega

/-- Store one row of the trip's results: sixteen columns of row `r` of the tile's output block. -/
def put (r : Fin 4) (v : FVec F S16 .f32) : Prog (EFF F i) PUnit := do
  let _ ← Prog.lift (.load arg5 (Rect.unit (s := S4x512) (off r.val t) S1x16.size (offO_inb r t)).toLoadRect (View.loadsAt_vmem h_S1x16))
  Prog.lift (.store arg5 (Rect.unit (s := S4x512) (off r.val t) S1x16.size (offO_inb r t)) (shapeCast S1x16 v shapeCasts_S16_S1x16) Finset.univ (View.stores_vmem_bits_univ h_S1x16 rfl) (.inl rfl))

/-- The one of the program, sixteen times. -/
abbrev one16 : FVec F S16 .f32 := broadcast S16 (Scalar.ofBits .f32 0x3F800000#32)

/-- The weight of the greatest logit: `1 / (1 + exp (second - best))`. -/
def St.w0 (s : St F) : FVec F S16 .f32 := divf one16 (addf one16 (exp (subf s.second s.best)))

/-- One trip: the walk over the experts, then the four rows of results. -/
def trip : Prog (EFF F i) PUnit :=
  rows arg4 t (List.finRange 64) St.init >>= fun s =>
    put arg5 t 0 (sitofp .f32 s.besti) >>= fun _ => put arg5 t 1 (sitofp .f32 s.secondi) >>= fun _ =>
      put arg5 t 2 s.w0 >>= fun _ => put arg5 t 3 (subf one16 s.w0)

end Store

section Parts

variable (i : grid1.Coords) (arg2 : Memref sig .scVector .hbm S32x64x512 .f32) (harg2 : arg2.IsWhole)
  (arg3 : Memref sig .scVector .hbm S4x16384 .f32) (harg3 : arg3.IsWhole)
  (arg4 : Memref sig .scVector .vmem S64x512 .f32) (harg4 : arg4.IsWhole)
  (arg5 : Memref sig .scVector .vmem S4x512 .f32) (harg5 : arg5.IsWhole) (r0 r1 : DmaSems sig S_)

/-- The kernel's body: the copy in, the trips, the copy out. -/
def body : Prog (EFF F i) PUnit := do
  Prog.lift (.enqueueDma ((arg2.slice (Rect.unit (s := S32x64x512) (k1_off1 i) S1x64x512.size (k1_off1_inb i)) (fun _ => rfl)).squeeze S64x512 squeezes_S1x64x512_S64x512) (.here arg4) (.dma r0.sem) ((View.wordExact_bits rfl).reshape _ _) harg4.wordExact ⟨Or.inl rfl, trivial⟩)
  Prog.lift (.waitDma2 r0.sem ((arg2.slice (Rect.unit (s := S32x64x512) (k1_off1 i) S1x64x512.size (k1_off1_inb i)) (fun _ => rfl)).squeeze S64x512 squeezes_S1x64x512_S64x512) arg4 ((View.wordExact_bits rfl).reshape _ _) harg4.wordExact)
  Scf.Loop.for k1_t1_loop k1_t1_ok ⟨⟩ fun t _ => trip arg4 arg5 t
  Prog.lift (.enqueueDma arg5 (.here (arg3.slice (Rect.unit (s := S4x16384) (k1_off70 i) S4x512.size (k1_off70_inb i)) (fun _ => rfl))) (.dma r1.sem) harg5.wordExact (View.wordExact_bits rfl) ⟨Or.inl rfl, trivial⟩)
  Prog.lift (.waitDma2 r1.sem arg5 (arg3.slice (Rect.unit (s := S4x16384) (k1_off70 i) S4x512.size (k1_off70_inb i)) (fun _ => rfl)) harg5.wordExact (View.wordExact_bits rfl))

set_option maxHeartbeats 4000000 in
/-- The kernel's body is the copy in, the trips and the copy out. -/
theorem body_eq : cc1__sc_top2_body (F := F) i arg2 harg2 arg3 harg3 arg4 harg4 arg5 harg5 r0 r1
    = body i arg2 arg3 arg4 harg4 arg5 harg5 r0 r1 := rfl

end Parts

end Cert.Proof.Top2
-- ==== Proof.Launch.lean ====
/-
  The program as the launch theorem sees it: the resource algebra, the buffers' locations, and the value every buffer
  of @main ends at, as a function of the two arguments.
-/
module

public import proofs.«01_k».proof.Proof.Rows
public import proofs.«01_k».proof.Proof.Gen.KernelIdeal.Launch
public import proofs.«01_k».proof.Proof.Gen.KernelIdeal.Points
public import Idealize.ShloMosaic.Lib.Pipeline.RegionArrays
public import Idealize.ShloMosaic.Lib.ValueIdx

@[expose] public section

set_option maxRecDepth 16384

noncomputable section

namespace Cert.Proof.Top2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

/-! ## The launch's configuration -/

/-- The labels of the two kernels. -/
abbrev ΛP [FloatOps F] : Labels := Pipeline.Sig Λ₀ (Fin 1) fun p => (pcfgs (F := F) p).Adm
/-- The SparseCore launch. -/
abbrev K [FloatOps F] : SparseCore.Cfg τ sig (ΛP (F := F)) 1 := sc (F := F)
/-- The launch has two cores. -/
theorem nCore_zero [FloatOps F] : (K (F := F)).nCore 0 = 2 := rfl
/-- The launch has sixteen tiles on each core. -/
theorem nSub_zero [FloatOps F] : (K (F := F)).nSub 0 = 16 := rfl
/-- The table of the kernels' bodies. -/
abbrev D [FloatOps F] : Defs nD τ sig (Elt F) (ΛP (F := F)) := Pipeline.defs pcfgs defs₀
/-- No loop variants are needed. -/
abbrev 𝒱₀ : Variants := Variants.none
/-- The same, of the program with its launches. -/
abbrev 𝒱 : Variants := 𝒱₀.lift
/-- The variant of a body without one. -/
abbrev v₀ : 𝒱.V := Sum.inl none

/-- The side conditions of the launch. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

/-- The ghost state of the launch's handshakes. -/
abbrev UH : Type := URounds (GSem nD τ sig) ℕ
/-- The ghost state of the pipeline's rounds. -/
abbrev UP : Type := UR sig nD τ
/-- The ghost state of the whole program. -/
abbrev UU : Type := UH × (UP × Counters)

/-- The handshakes' part of the ghost state. -/
abbrev EH : Emb UH (MT nD τ sig (HIx 1) (Elt F) ℕ UU ℕ) := embL
/-- Where the staging cells' rounds live. -/
def EP : Emb UP (MT nD τ sig (HIx 1) (Elt F) ℕ UU ℕ) := (Emb.inl : Emb UP (UP × Counters)).trans embR
/-- The pipeline's part lies in the user's ghost state. -/
instance EP_landsIn : (EP (F := F)).LandsIn (upEmb : UEmb _ (MT nD τ sig (HIx 1) (Elt F) ℕ UU ℕ)) := by
  unfold EP embR; infer_instance

/-! ## The buffers of @main -/

/-- A buffer of device `d`. -/
abbrev loc (d : Dev nD) (b : Ref sig .tc) : Loc nD τ sig := (SparseCore.T d).loc b

variable [FloatOps F]

/-! ## What the walk over the experts leaves for one token -/

/-- What the walk keeps for one token. -/
structure St1 (F : FTy → Type) where
  second : F .f32
  secondi : BitVec 32
  best : F .f32
  besti : BitVec 32

/-- Before the first expert. -/
def St1.init : St1 F where
  second := Scalar.ofBits .f32 0xFF800000#32
  secondi := 0#32
  best := Scalar.ofBits .f32 0xFF800000#32
  besti := 0#32

/-- One expert's step for one token. -/
def upd1 (col : BitVec 32) (v : F .f32) (s : St1 F) : St1 F where
  second := Scalar.select (FloatOps.cmpf .ogt v s.best) s.best (FloatOps.maximumf s.second v)
  secondi := Scalar.select (FloatOps.cmpf .ogt v s.best) s.besti (Scalar.select (FloatOps.cmpf .ogt v s.second) col s.secondi)
  best := FloatOps.maximumf s.best v
  besti := Scalar.select (FloatOps.cmpf .ogt v s.best) col s.besti

/-- The walk over the experts of a list, for a token whose logits are `g`. -/
def walk1 (g : Fin 64 → F .f32) (l : List (Fin 64)) : St1 F :=
  l.foldl (fun s e => upd1 (BitVec.ofNat 32 e.val) (g e) s) St1.init

/-- The one of the program. -/
abbrev one1 : F .f32 := Scalar.ofBits .f32 0x3F800000#32

/-- The weight of the greatest logit. -/
def St1.w0 (s : St1 F) : F .f32 := FloatOps.divf one1 (FloatOps.addf one1 (FloatOps.exp (FloatOps.subf s.second s.best)))

/-- The four numbers stored for a token: the two experts, then the two weights. -/
def St1.out (s : St1 F) : Fin 4 → F .f32 :=
  ![FloatOps.sitofp .f32 s.besti, FloatOps.sitofp .f32 s.secondi, s.w0, FloatOps.subf one1 s.w0]

/-- The same from the token's logits. -/
def resAt (g : Fin 64 → F .f32) : Fin 4 → F .f32 := (walk1 g (List.finRange 64)).out

/-- A tile's block of results from its block of logits. -/
def resTile (v : S64x512.Idx → F .f32) : S4x512.Idx → F .f32 := fun j => resAt (fun e => v (ix2 e (j 1))) (j 0)

/-- All results from all logits: token `n` is column `n mod 512` of slab `n / 512`. -/
def resAll (v : S32x64x512.Idx → F .f32) : S4x16384.Idx → F .f32 := fun j =>
  resAt (fun e => v (ix3 (⟨(j 1).val / 512, Nat.div_lt_of_lt_mul (j 1).isLt⟩ : Fin 32) e (⟨(j 1).val % 512, Nat.mod_lt _ (by decide)⟩ : Fin 512))) (j 0)

/-! ## The logits -/

/-- Block `b` of 1024 tokens. -/
def xblk (x : S16384x2048.Idx → F .f32) (b : Fin 16) : FVec F S1024x2048 .f32 := fun j =>
  x (ix2 (⟨1024 * b.val + (j 0).val, by have h : (j 0).val < 1024 := (j 0).isLt; omega⟩ : Fin 16384) (j 1))

/-- The logits as the first kernel lays them out: slab `w`, expert, token of the slab. -/
def logits (x : S16384x2048.Idx → F .f32) (W : S64x2048.Idx → F .f32) : S32x64x512.Idx → F .f32 := fun j =>
  k0_pay1 (W : FVec F S64x2048 .f32) (xblk x ⟨(j 0).val / 2, by have h : (j 0).val < 32 := (j 0).isLt; omega⟩)
    (ix2 (j 1) (⟨512 * ((j 0).val % 2) + (j 2).val, by have h : (j 2).val < 512 := (j 2).isLt; omega⟩ : Fin 1024))

end Cert.Proof.Top2
-- ==== Proof.Trip.lean ====
/-
  One trip of the top-2 loop, run: the tile's block of logits is read and kept, and the sixteen columns of the trip in
  the tile's output block are set to the tokens' results. By induction over the experts for the walk, and by an invariant
  for the loop: after `k` trips the columns below `16 k` hold their results.
-/
module

public import proofs.«01_k».proof.Proof.Launch
public import Idealize.ShloMosaic.Lib.ValueLayout
public import Idealize.ShloMosaic.Lib.Writes

@[expose] public section

set_option maxRecDepth 16384

noncomputable section

namespace Cert.Proof.Top2

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

local notation "𝕄" => MT nD τ sig (HIx 1) (Elt F) ℕ UU ℕ
local notation "sV" => (Memref.whole Cert.KernelIdeal.cc1_scratch0 : Memref Cert.KernelIdeal.sig Kind.scVector Space.vmem Cert.KernelIdeal.S64x512 EltTy.f32)
local notation "rV" => (Memref.whole Cert.KernelIdeal.cc1_scratch1 : Memref Cert.KernelIdeal.sig Kind.scVector Space.vmem Cert.KernelIdeal.S4x512 EltTy.f32)

/-! ## The walk, one token at a time -/

/-- Lane `j` of what the walk keeps. -/
def St.at (s : St F) (j : S16.Idx) : St1 F := ⟨s.second j, s.secondi j, s.best j, s.besti j⟩

/-- A step of the vector walk is the token's step in every lane. -/
theorem upd_at (col : BitVec 32) (v : FVec F S16 .f32) (s : St F) (j : S16.Idx) : (upd col v s).at j = upd1 col (v j) (s.at j) := rfl

/-- The sixteen logits of expert `e` in trip `t`. -/
def vec (f : S64x512.Idx → F .f32) (t : Fin k1_t1_loop.trips) (e : Fin 64) : FVec F S16 .f32 :=
  shapeCast S16 (((sV).access (Rect.unit (s := S64x512) (off e.val t) S1x16.size (off_inb e t))).read (Elt F) f) shapeCasts_S1x16_S16

/-- The walk of trip `t` over the experts of a list. -/
def walk (f : S64x512.Idx → F .f32) (t : Fin k1_t1_loop.trips) (l : List (Fin 64)) (s : St F) : St F :=
  l.foldl (fun s e => upd (BitVec.ofNat 32 e.val) (vec f t e) s) s

/-- Column `k` of trip `t`. -/
def lane (t : Fin k1_t1_loop.trips) (k : Fin 16) : Fin 512 :=
  ⟨16 * t.val + k.val, by have := Nat.lt_of_lt_of_eq t.isLt trips_eq; omega⟩

/-- Lane `k` of an expert's 16 logits. -/
theorem vec_apply (f : S64x512.Idx → F .f32) (t : Fin k1_t1_loop.trips) (e : Fin 64) (k : Fin 16) :
    vec f t e (ix1 k) = f (ix2 e (lane t k)) := by
  refine (shapeCast_1a_a_apply _ _ k).trans ?_
  refine congrArg f ?_
  funext a
  apply Fin.ext
  match a with
  | 0 => show e.val + 1 * 0 = e.val; omega
  | 1 => show col0 t + 1 * k.val = 16 * t.val + k.val; rw [col0_eq]; omega

/-- The vector walk is the token's walk in every lane. -/
theorem walk_at (f : S64x512.Idx → F .f32) (t : Fin k1_t1_loop.trips) (l : List (Fin 64)) (s : St F) (k : Fin 16) :
    (walk f t l s).at (ix1 k) = l.foldl (fun s e => upd1 (BitVec.ofNat 32 e.val) (f (ix2 e (lane t k))) s) (s.at (ix1 k)) := by
  induction l generalizing s with
  | nil => rfl
  | cons e l ih =>
    show (walk f t l (upd _ (vec f t e) s)).at (ix1 k) = _
    rw [ih, upd_at, vec_apply]; rfl

/-! ## The rules of a step, of the walk, of a store -/

section Run

variable (d : Dev nD) (i : grid1.Coords)

/-- The vector subcore at grid point `i`. -/
abbrev thr (d : Dev nD) (i : grid1.Coords) : Thread nD τ := V d ((i 0).castLE hcore1) ((i 1).castLE hsub1)

/-- The tile's buffer of logits held. -/
abbrev sPts (f : S64x512.Idx → F .f32) : sProp 𝕄 := (sV).view.loc (thr d i) ↦{fullShare} (f : Buf (Elt F) ((sV).view.loc (thr d i)))
/-- The tile's buffer of results held. -/
abbrev rPts (f : S4x512.Idx → F .f32) : sProp 𝕄 := (rV).view.loc (thr d i) ↦{fullShare} (f : Buf (Elt F) ((rV).view.loc (thr d i)))

/-- The walk's first expert, then the rest. -/
theorem rows_cons (t : Fin k1_t1_loop.trips) (e : Fin 64) (l : List (Fin 64)) (s : St F) :
    (rows (i := i) sV t (e :: l) s : Prog (EFF F i) (St F))
      = .op (.load sV (Rect.unit (s := S64x512) (off e.val t) S1x16.size (off_inb e t)).toLoadRect (View.loadsAt_vmem h_S1x16)) fun v =>
          rows sV t l (upd (BitVec.ofNat 32 e.val) (shapeCast S16 v shapeCasts_S1x16_S16) s) := rfl

/-- The walk leaves the block as it was and returns what it keeps. -/
theorem wp_rows (t : Fin k1_t1_loop.trips) (f : S64x512.Idx → F .f32) (l : List (Fin 64)) (s : St F) (Q : St F → sProp 𝕄) :
    iprop(sPts d i f ∗ (sPts d i f -∗ Q (walk f t l s)))
      ⊢ wp frame (wpE (defs₀ (F := F)) 𝒱₀ (thr d i) none) Set.univ (rows (i := i) sV t l s) Q := by
  induction l generalizing s with
  | nil =>
    show _ ⊢ wp frame _ _ (pure s) Q
    rw [wp_pure, show walk f t [] s = s from rfl]
    iintro ⟨Hs, HQ⟩
    imodintro
    iapply HQ; iexact Hs
  | cons e l ih =>
    rw [rows_cons]
    iintro ⟨Hs, HQ⟩
    iapply (wp_load_rect 𝒱₀ (thr d i) none Set.univ (m := sV) (S := Finset.univ) (Finset.subset_univ _)) $$ [Hs]
    · iexact Hs
    iintro Hs
    iapply (ih _)
    isplitl [Hs]; · iexact Hs
    iexact HQ

/-- The piece a store of row `r` leaves. -/
def piece (t : Fin k1_t1_loop.trips) (r : Fin 4) (v : FVec F S16 .f32) : View.Piece (Elt F) S4x512 .f32 :=
  ⟨Rect.unit (s := S4x512) (off r.val t) S1x16.size (offO_inb r t), shapeCast S1x16 v shapeCasts_S16_S1x16⟩

/-- What a store of 16 results leaves. -/
theorem put_eq (t : Fin k1_t1_loop.trips) (r : Fin 4) (v : FVec F S16 .f32) :
    (put (i := i) rV t r v : Prog (EFF F i) PUnit)
      = .op (.load rV (Rect.unit (s := S4x512) (off r.val t) S1x16.size (offO_inb r t)).toLoadRect (View.loadsAt_vmem h_S1x16)) fun _ =>
          .op (.store rV (Rect.unit (s := S4x512) (off r.val t) S1x16.size (offO_inb r t)) (shapeCast S1x16 v shapeCasts_S16_S1x16) Finset.univ (View.stores_vmem_bits_univ h_S1x16 rfl) (.inl rfl)) fun u => pure u := rfl

/-- A store of part of a row adds its piece. -/
theorem wp_put (t : Fin k1_t1_loop.trips) (r : Fin 4) (v : FVec F S16 .f32) (f : S4x512.Idx → F .f32) (L : List (View.Piece (Elt F) S4x512 .f32)) (Q : PUnit → sProp 𝕄) :
    iprop(rPts d i ((rV).view.writes (Elt F) f L) ∗ (rPts d i ((rV).view.writes (Elt F) f (piece t r v :: L)) -∗ Q ⟨⟩))
      ⊢ wp frame (wpE (defs₀ (F := F)) 𝒱₀ (thr d i) none) Set.univ (put (i := i) rV t r v) Q := by
  rw [put_eq]
  iintro ⟨Hr, HQ⟩
  iapply (wp_load_rect 𝒱₀ (thr d i) none Set.univ (m := rV) (S := Finset.univ) (Finset.subset_univ _)) $$ [Hr]
  · iexact Hr
  iintro Hr
  iapply (wp_store_writes (Val := Elt F) 𝒱₀ (thr d i) none Set.univ (m := rV) (r := Rect.unit (s := S4x512) (off r.val t) S1x16.size (offO_inb r t))
    (w := shapeCast S1x16 v shapeCasts_S16_S1x16) (S := Finset.univ) (f := f) (L := L) (Finset.subset_univ _)) $$ [Hr]
  · iexact Hr
  iintro Hr
  rw [wp_pure]
  imodintro
  iapply HQ; iexact Hr

/-- The four pieces of a trip. -/
def pieces (s : St F) (t : Fin k1_t1_loop.trips) : List (View.Piece (Elt F) S4x512 .f32) :=
  [piece t 3 (subf one16 s.w0), piece t 2 s.w0, piece t 1 (sitofp .f32 s.secondi), piece t 0 (sitofp .f32 s.besti)]

/-- One trip: the block kept, the four pieces stored. -/
theorem wp_trip (t : Fin k1_t1_loop.trips) (f : S64x512.Idx → F .f32) (g : S4x512.Idx → F .f32) (Q : PUnit → sProp 𝕄) :
    iprop(sPts d i f ∗ rPts d i g ∗ ((sPts d i f ∗ rPts d i ((rV).view.writes (Elt F) g (pieces (walk f t (List.finRange 64) St.init) t))) -∗ Q ⟨⟩))
      ⊢ wp frame (wpE (defs₀ (F := F)) 𝒱₀ (thr d i) none) Set.univ (trip (i := i) sV rV t) Q := by
  unfold trip
  rw [wp_bind]
  iintro ⟨Hs, Hr, HQ⟩
  iapply (wp_rows d i t f _ _ _)
  isplitl [Hs]; · iexact Hs
  iintro Hs
  rw [wp_bind]
  iapply (wp_put d i t 0 _ g [])
  isplitl [Hr]; · iexact Hr
  iintro Hr
  rw [wp_bind]
  iapply (wp_put d i t 1 _ g _)
  isplitl [Hr]; · iexact Hr
  iintro Hr
  rw [wp_bind]
  iapply (wp_put d i t 2 _ g _)
  isplitl [Hr]; · iexact Hr
  iintro Hr
  iapply (wp_put d i t 3 _ g _)
  isplitl [Hr]; · iexact Hr
  iintro Hr
  iapply HQ
  isplitl [Hs]; · iexact Hs
  iexact Hr

/-! ## What a trip leaves -/

/-- A piece of a trip holds the tokens' results. -/
theorem piece_val (t : Fin k1_t1_loop.trips) (r : Fin 4) (v : FVec F S16 .f32) (f : S64x512.Idx → F .f32)
    (h : ∀ k : Fin 16, v (ix1 k) = resTile f (ix2 r (lane t k))) (x : (piece t r v).1.shape.Idx) :
    (piece t r v).2 x = resTile f ((piece t r v).1.emb x) := by
  have hx : (x : S1x16.Idx) = ix2 (0 : Fin 1) (x 1) := eq_ix2 x ▸ by
    refine congrArg (fun a => (ix2 a (x 1) : S1x16.Idx)) ?_
    exact Subsingleton.elim _ _
  have e : (piece t r v).1.emb x = (ix2 r (lane t (x 1)) : S4x512.Idx) := by
    funext a
    apply Fin.ext
    match a with
    | 0 =>
      have h0 : (x 0).val < 1 := (x 0).isLt
      show r.val + 1 * (x 0).val = r.val; omega
    | 1 => show col0 t + 1 * (x 1).val = 16 * t.val + (x 1).val; rw [col0_eq]; omega
  rw [e, ← h (x 1)]
  show shapeCast S1x16 v shapeCasts_S16_S1x16 x = _
  rw [hx]
  exact shapeCast_a_1a_apply v _ 0 (x 1)

/-- The block of results at trip `t`, row `r` and lane `k`. -/
theorem resTile_eq (t : Fin k1_t1_loop.trips) (f : S64x512.Idx → F .f32) (r : Fin 4) (k : Fin 16) :
    resTile f (ix2 r (lane t k)) = ((walk f t (List.finRange 64) St.init).at (ix1 k)).out r := by
  rw [walk_at]; rfl

/-- The four stores of a trip hold the block's results. -/
theorem pieces_val (t : Fin k1_t1_loop.trips) (f : S64x512.Idx → F .f32) :
    ∀ p ∈ pieces (walk f t (List.finRange 64) St.init) t, ∀ x : p.1.shape.Idx, p.2 x = resTile f (p.1.emb x) := by
  intro p hp
  simp only [pieces, List.mem_cons, List.not_mem_nil, _root_.or_false] at hp
  rcases hp with rfl | rfl | rfl | rfl
  · exact piece_val t 3 _ f fun k => (resTile_eq t f 3 k).symm
  · exact piece_val t 2 _ f fun k => (resTile_eq t f 2 k).symm
  · exact piece_val t 1 _ f fun k => (resTile_eq t f 1 k).symm
  · exact piece_val t 0 _ f fun k => (resTile_eq t f 0 k).symm

/-- The columns below `16 k` hold their results. -/
def Done (f : S64x512.Idx → F .f32) (k : Nat) (g : S4x512.Idx → F .f32) : Prop := ∀ j : S4x512.Idx, (j 1).val < 16 * k → g j = resTile f j

/-- The indices that a store writes. -/
theorem mem_piece (t : Fin k1_t1_loop.trips) (r : Fin 4) (v : FVec F S16 .f32) (j : S4x512.Idx) :
    j ∈ (piece t r v).1.set ↔ (j 0).val = r.val ∧ 16 * t.val ≤ (j 1).val ∧ (j 1).val < 16 * t.val + 16 := by
  show j ∈ (Rect.unit (s := S4x512) (off r.val t) S1x16.size (offO_inb r t)).set ↔ _
  rw [Rect.mem_set_unit]
  refine ⟨fun h => ?_, fun h a => ?_⟩
  · have h0 : r.val ≤ (j 0).val ∧ (j 0).val < r.val + 1 := h 0
    have h1 : col0 t ≤ (j 1).val ∧ (j 1).val < col0 t + 16 := h 1
    rw [col0_eq] at h1; omega
  · match a with
    | 0 => show r.val ≤ (j 0).val ∧ (j 0).val < r.val + 1; omega
    | 1 => show col0 t ≤ (j 1).val ∧ (j 1).val < col0 t + 16; rw [col0_eq]; omega

/-- The whole buffer of results read. -/
theorem read_rV (g : S4x512.Idx → F .f32) : (rV).view.read (Elt F) g = g := rfl

/-- A trip more: the results of the first `t + 1` trips are in place. -/
theorem done_succ (t : Fin k1_t1_loop.trips) (f : S64x512.Idx → F .f32) (g : S4x512.Idx → F .f32) (h : Done f t.val g) :
    Done f (t.val + 1) ((rV).view.writes (Elt F) g (pieces (walk f t (List.finRange 64) St.init) t)) := by
  intro j hj
  by_cases hlt : (j 1).val < 16 * t.val
  · rw [← h j hlt]
    refine (congrFun (read_rV _) j).symm.trans ((View.read_writes_apply_of_forall_not_mem (v := (rV).view) (Val := Elt F) g j _ ?_).trans (congrFun (read_rV g) j))
    intro p hp
    simp only [pieces, List.mem_cons, List.not_mem_nil, _root_.or_false] at hp
    rcases hp with rfl | rfl | rfl | rfl <;> · rw [mem_piece]; omega
  · refine (congrFun (read_rV _) j).symm.trans (View.read_writes_apply_of_pieces (v := (rV).view) (Val := Elt F) g (resTile f) _ (pieces_val t f) j ?_)
    have h4 : (j 0).val < 4 := (j 0).isLt
    have key : ∀ r : Fin 4, (j 0).val = r.val → ∀ v : FVec F S16 .f32, j ∈ (piece t r v).1.set := fun r hr v => by
      rw [mem_piece]; omega
    have hr : (j 0).val = 0 ∨ (j 0).val = 1 ∨ (j 0).val = 2 ∨ (j 0).val = 3 := by omega
    unfold pieces
    rcases hr with hr | hr | hr | hr
    · exact ⟨_, .tail _ (.tail _ (.tail _ (.head _))), key 0 hr _⟩
    · exact ⟨_, .tail _ (.tail _ (.head _)), key 1 hr _⟩
    · exact ⟨_, .tail _ (.head _), key 2 hr _⟩
    · exact ⟨_, .head _, key 3 hr _⟩

/-- The loop: the block of logits kept, the output block at the results. -/
theorem wp_loop (f : S64x512.Idx → F .f32) (g : S4x512.Idx → F .f32) {β : Type} (kk : PUnit → Prog (EFF F i) β) (Q : β → sProp 𝕄) :
    iprop(sPts d i f ∗ rPts d i g ∗ ((sPts d i f ∗ rPts d i (resTile f)) -∗ wp frame (wpE (defs₀ (F := F)) 𝒱₀ (thr d i) none) Set.univ (kk ⟨⟩) Q))
      ⊢ wp frame (wpE (defs₀ (F := F)) 𝒱₀ (thr d i) none) Set.univ
          ((Scf.Loop.for k1_t1_loop k1_t1_ok PUnit.unit fun t _ => trip (i := i) sV rV t) >>= kk) Q := by
  iintro ⟨Hs, Hr, HQ⟩
  iapply (Scf.wp_for_bind frame (wpE (defs₀ (F := F)) 𝒱₀ (thr d i) none) Set.univ _ _ _ k1_t1_ok PUnit.unit (fun t _ => trip (i := i) sV rV t)
    (fun k _ => iprop(sPts d i f ∗ ∃ g, ⌜Done f k g⌝ ∗ rPts d i g)) ?_) $$ [Hs Hr]
  · intro t _
    iintro ⟨Hs, %g, %hg, Hr⟩
    iapply (wp_trip d i t f g)
    isplitl [Hs]; · iexact Hs
    isplitl [Hr]; · iexact Hr
    iintro ⟨Hs, Hr⟩
    isplitl [Hs]; · iexact Hs
    iexists _
    isplitr
    swap; · iexact Hr
    ipureintro; exact done_succ t f g hg
  · isplitl [Hs]; · iexact Hs
    iexists g; isplitr
    swap; · iexact Hr
    ipureintro; intro j hj; omega
  iintro %_ ⟨Hs, %g', %hg', Hr⟩
  iapply HQ
  isplitl [Hs]; · iexact Hs
  have e : g' = resTile f := funext fun j => hg' j (by
    have h1 : (j 1).val < 512 := (j 1).isLt
    show (j 1).val < 16 * k1_t1_loop.trips; rw [trips_eq]; omega)
  rw [e]
  iexact Hr

end Run

end Cert.Proof.Top2
-- ==== Proof.Tile.lean ====
/-
  The task of one vector subcore, at a symbolic grid point: it copies its slab of logits in, runs the trips, and copies
  its block of results out. It starts from its slab holding the logits and ends with its columns of the result holding
  the tokens' results.
-/
module

public import proofs.«01_k».proof.Proof.Trip

@[expose] public section

set_option maxRecDepth 16384

noncomputable section

namespace Cert.Proof.Top2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type}

local notation "𝕄" => MT nD τ sig (HIx 1) (Elt F) ℕ UU ℕ
local notation "aV" => (Memref.whole Cert.KernelIdeal.main_v0_scv : Memref Cert.KernelIdeal.sig Kind.scVector Space.hbm Cert.KernelIdeal.S32x64x512 EltTy.f32)
local notation "oV" => (Memref.whole Cert.KernelIdeal.main_v1_scv : Memref Cert.KernelIdeal.sig Kind.scVector Space.hbm Cert.KernelIdeal.S4x16384 EltTy.f32)
local notation "sV" => (Memref.whole Cert.KernelIdeal.cc1_scratch0 : Memref Cert.KernelIdeal.sig Kind.scVector Space.vmem Cert.KernelIdeal.S64x512 EltTy.f32)
local notation "rV" => (Memref.whole Cert.KernelIdeal.cc1_scratch1 : Memref Cert.KernelIdeal.sig Kind.scVector Space.vmem Cert.KernelIdeal.S4x512 EltTy.f32)

/-! ## The slabs of the logits and the columns of the result -/

/-- The logits are cut into 32 slabs. -/
theorem adiv : 32 ∣ S32x64x512.size 0 := ⟨1, rfl⟩
/-- The table's columns are cut into 32 blocks. -/
theorem odiv : 32 ∣ S4x16384.size 1 := ⟨512, rfl⟩
/-- Slab `w` of the logits; -/
abbrev slab (w : Fin 32) : Rect S32x64x512 := Rect.part (s := S32x64x512) (a₀ := 0) adiv w
/-- block `w` of 512 columns of the result. -/
abbrev cols (w : Fin 32) : Rect S4x16384 := Rect.part (s := S4x16384) (a₀ := 1) odiv w
/-- The indices of slab `w`. -/
abbrev slabSet (w : Fin 32) : Finset S32x64x512.Idx := (slab w).set
/-- The indices of block `w` of columns. -/
abbrev colSet (w : Fin 32) : Finset S4x16384.Idx := (cols w).set

/-- The logits' array. -/
abbrev aLoc (d : Dev nD) : Loc nD τ sig := loc d main_v0
/-- The table's array. -/
abbrev oLoc (d : Dev nD) : Loc nD τ sig := loc d main_v1
/-- Slab `w` held. -/
abbrev slabPts (d : Dev nD) (w : Fin 32) (v : S32x64x512.Idx → F .f32) : sProp 𝕄 := aLoc d ↦[slabSet w]{fullShare} (v : Buf (Elt F) (aLoc d))
/-- Block `w` of columns held. -/
abbrev colPts (d : Dev nD) (w : Fin 32) (v : S4x16384.Idx → F .f32) : sProp 𝕄 := oLoc d ↦[colSet w]{fullShare} (v : Buf (Elt F) (oLoc d))

section Tile

variable (d : Dev nD) (L : grid1.Coords)

/-- The tile's core. -/
abbrev cV (L : grid1.Coords) : Fin τ.nSC := (L 0).castLE hcore1
/-- The tile's number on its core. -/
abbrev jV (L : grid1.Coords) : Fin τ.nSub := (L 1).castLE hsub1
/-- The number of the task at grid point `L`. -/
def wid (L : grid1.Coords) : Fin 32 := ⟨2 * (L 1).val + (L 0).val, by
  have h0 : (L 0).val < 2 := (L 0).isLt
  have h1 : (L 1).val < 16 := (L 1).isLt
  omega⟩

/-- The rectangle that the tile copies in. -/
abbrev slabRectK (L : grid1.Coords) : Rect S32x64x512 := Rect.unit (s := S32x64x512) (k1_off1 L) S1x64x512.size (k1_off1_inb L)
/-- The rectangle that the tile copies out to. -/
abbrev colRectK (L : grid1.Coords) : Rect S4x16384 := Rect.unit (s := S4x16384) (k1_off70 L) S4x512.size (k1_off70_inb L)
/-- The task's slab of logits and its columns of the result, as it addresses them. -/
abbrev slabK (L : grid1.Coords) : Memref sig .scVector .hbm S64x512 .f32 := ((aV).slice (slabRectK L) (fun _ => rfl)).squeeze S64x512 squeezes_S1x64x512_S64x512
/-- The columns that the tile copies out to. -/
abbrev colK (L : grid1.Coords) : Memref sig .scVector .hbm S4x512 .f32 := (oV).slice (colRectK L) (fun _ => rfl)

/-- The tile copies in its own slab. -/
theorem slabRectK_eq : slabRectK L = slab (wid L) := by
  unfold slabRectK slab Rect.part Rect.block
  congr 1 <;> funext a
  · rw [k1_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]
/-- The tile copies out to its own columns. -/
theorem colRectK_eq : colRectK L = cols (wid L) := by
  unfold colRectK cols Rect.part Rect.block
  congr 1 <;> funext a
  · rw [k1_off70_eq]
    match a with
    | 0 => simp [Shape.partIx, Shape.partSize]
    | 1 => simp [Shape.partIx, Shape.partSize, wid]; omega
  · match a with
    | 0 => simp [Shape.partSize]
    | 1 => simp [Shape.partSize]

/-- The copy in reads the slab's indices. -/
theorem set_slabK : (slabK L).view.set = slabSet (wid L) := by
  show (((aV).view.slice (slabRectK L)).reshape S64x512 squeezes_S1x64x512_S64x512.numel_eq).set = (slab (wid L)).set
  rw [View.set_reshape, ← slabRectK_eq]
  show ((View.whole (main_v0_scv : Ref sig .scVector)).slice (slabRectK L)).set = _
  rw [View.set_slice]; exact Finset.map_refl
/-- The copy out writes the columns' indices. -/
theorem set_colK : (colK L).view.set = colSet (wid L) := by
  show ((View.whole (main_v1_scv : Ref sig .scVector)).slice (colRectK L)).set = (cols (wid L)).set
  rw [← colRectK_eq, View.set_slice]; exact Finset.map_refl

/-- The slab held, as the copy names it. -/
theorem pts_slabK (f : S32x64x512.Idx → F .f32) :
    ((slabK L).view.loc (thr d L) ↦[(slabK L).view.set]{fullShare} (f : Buf (Elt F) (aLoc d)) : sProp 𝕄) = slabPts d (wid L) f := by
  rw [set_slabK]
/-- The columns held, as the copy names them. -/
theorem pts_colK (f : S4x16384.Idx → F .f32) :
    ((colK L).view.loc (thr d L) ↦[(colK L).view.set]{fullShare} (f : Buf (Elt F) (oLoc d)) : sProp 𝕄) = colPts d (wid L) f := by
  rw [set_colK]
/-- The tile's buffer of logits held, as a copy names it. -/
theorem pts_sV (f : Buf (Elt F) ((thr d L).loc cc1_scratch0)) :
    ((sV).view.loc (thr d L) ↦{fullShare} f : sProp 𝕄) = (thr d L).loc cc1_scratch0 ↦{fullShare} f := rfl
/-- The tile's buffer of results held, as a copy names it. -/
theorem pts_rV (f : Buf (Elt F) ((thr d L).loc cc1_scratch1)) :
    ((rV).view.loc (thr d L) ↦{fullShare} f : sProp 𝕄) = (thr d L).loc cc1_scratch1 ↦{fullShare} f := rfl

/-! ## The task's own cells and buffers -/

/-- The semaphore of the copy in. -/
abbrev cA (d : Dev nD) (L : grid1.Coords) : GSem nD τ sig := (thr d L, .dma cc1_scoped0.sem)
/-- The semaphore of the copy out. -/
abbrev cB (d : Dev nD) (L : grid1.Coords) : GSem nD τ sig := (thr d L, .dma cc1_scoped1.sem)

/-- The tile's semaphores are these two and the rest. -/
theorem ownSems0_V :
    (ownSems0 (thr d L) : sProp 𝕄)
      = iprop(semVal (cA d L) 0 ∗ semVal (cB d L) 0
          ∗ bigSep (((ownCells (thr d L)).erase (cA d L)).erase (cB d L)) fun g => semVal g 0) := by
  unfold SparseCore.Cfg.ownSems0
  rw [SparseCore.bigSep_erase' ((mem_ownCells (g := cA d L)).mpr ⟨rfl, by
      show (SemLoc.dma cc1_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc1_scoped1.sem : SemLoc sig).isScoped .scVector = true; decide⟩⟩)]

/-- The two scratch buffers are among the subcore's own: they are them, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

variable [FloatOps F]

/-! ## What the copies carry -/

/-- The slab the copy in reads. -/
def slabOf (v : S32x64x512.Idx → F .f32) (w : Fin 32) : S64x512.Idx → F .f32 := fun j => v (ix3 w (j 0) (j 1))

/-- The copy in reads the tile's slab. -/
theorem read_slabK (v : S32x64x512.Idx → F .f32) : (slabK L).view.read (Elt F) v = slabOf v (wid L) := by
  refine (Memref.read_squeeze_slice (Val := Elt F) aV (slabRectK L) (fun _ => rfl) squeezes_S1x64x512_S64x512
    squeezes_S1x64x512_S64x512.numel_eq v).trans ?_
  funext j
  rw [eq_ix2 j]
  refine (shapeCast_1ab_ab_apply _ _ _ _).trans ?_
  refine congrArg v (funext fun a => Fin.ext ?_)
  have e : k1_off1 L = ![(wid L).val, 0, 0] := k1_off1_eq L
  match a with
  | 0 => show k1_off1 L 0 + 1 * 0 = (wid L).val; rw [e]; rfl
  | 1 => show k1_off1 L 1 + 1 * (j 0).val = (j 0).val; rw [e]; show 0 + 1 * (j 0).val = _; omega
  | 2 => show k1_off1 L 2 + 1 * (j 1).val = (j 1).val; rw [e]; show 0 + 1 * (j 1).val = _; omega

/-- What the copy out writes is the task's columns of all the results. -/
theorem write_colK (v : S32x64x512.Idx → F .f32) (f : S4x16384.Idx → F .f32) (j : S4x16384.Idx) (hj : j ∈ (colK L).view.set) :
    (colK L).view.write (Elt F) f (resTile (slabOf v (wid L))) Finset.univ j = resAll v j := by
  obtain ⟨x, -, rfl⟩ := Finset.mem_map.mp hj
  refine (View.write_emb_of_mem (v := (colK L).view) (Val := Elt F) _ _ (Finset.mem_univ x)).trans ?_
  show resTile (slabOf v (wid L)) x = resAll v ((colK L).view.emb x)
  have e : k1_off70 L = ![0, 512 * (wid L).val] := by
    rw [k1_off70_eq]; funext a
    match a with
    | 0 => rfl
    | 1 => show 1024 * (L 1).val + 512 * (L 0).val = 512 * (2 * (L 1).val + (L 0).val); omega
  have e0 : (colK L).view.emb x 0 = x 0 := Fin.ext (by
    show k1_off70 L 0 + 1 * (x 0).val = (x 0).val; rw [e]; show 0 + 1 * (x 0).val = _; omega)
  have e1 : ((colK L).view.emb x 1).val = 512 * (wid L).val + (x 1).val := by
    show k1_off70 L 1 + 1 * (x 1).val = _; rw [e]; show 512 * (wid L).val + 1 * (x 1).val = _; omega
  have hx : (x 1).val < 512 := (x 1).isLt
  unfold resTile resAll slabOf
  rw [e0]
  refine congrArg (fun g => resAt g (x 0)) (funext fun ex => congrArg v ?_)
  funext a; apply Fin.ext
  match a with
  | 0 => show (wid L).val = ((colK L).view.emb x 1).val / 512; rw [e1]; omega
  | 1 => rfl
  | 2 => show (x 1).val = ((colK L).view.emb x 1).val % 512; rw [e1]; omega

/-- The copy out writes the whole of the task's columns. -/
theorem wrote_colK (f : S4x16384.Idx → F .f32) (w : S4x512.Idx → F .f32) :
    (colK L).view.writes (Elt F) f [⟨Rect.whole S4x512, w⟩] = (colK L).view.write (Elt F) f w Finset.univ := by
  rw [← View.write_univ_eq_writes_whole, View.writes_nil]

/-- After the copy out the columns hold the tile's block of results. -/
theorem pts_wrote (v : S32x64x512.Idx → F .f32) (f : S4x16384.Idx → F .f32) (w : S4x512.Idx → F .f32)
    (hw : w = resTile (slabOf v (wid L))) :
    ((colK L).view.loc (thr d L) ↦[(colK L).view.set]{fullShare}
      ((colK L).view.writes (Elt F) f [⟨Rect.whole S4x512, w⟩] : Buf (Elt F) (oLoc d)) : sProp 𝕄) = colPts d (wid L) (resAll v) := by
  subst hw
  rw [← pts_colK, wrote_colK]
  exact pointsTo_congr (write_colK L v f)

/-! ## The task -/

set_option maxHeartbeats 4000000 in
/-- A tile's task: from its slab and its columns to the slab unchanged and the columns filled. -/
theorem tile_body (hF : (K (F := F)).Facts) (v : S32x64x512.Idx → F .f32) (f₁ : S4x16384.Idx → F .f32)
    (O : CellTallies nD τ sig (HIx 1)) (W : Waits sig (HIx 1)) (hO : ∀ g, O g none = 0) :
    iprop(levAts (K (F := F)).L (K (F := F)).lev ∗ emp
        ∗ (slabPts d (wid L) v ∗ colPts d (wid L) f₁)
        ∗ scopedBufs (thr d L) ∗ scopedSems0 (thr d L) ∗ owes (thr d L) O W)
      ⊢ wp frame (wpE (defs₀ (F := F)) 𝒱₀ (thr d L) none) Set.univ
          (cc1__sc_top2_body L aV (Memref.isWhole_whole _) oV (Memref.isWhole_whole _)
            sV (Memref.isWhole_whole _) rV (Memref.isWhole_whole _) cc1_scoped0 cc1_scoped1)
          fun _ => iprop((slabPts d (wid L) v ∗ colPts d (wid L) (resAll v))
            ∗ scopedBufs (thr d L) ∗ scopedSems0 (thr d L)
            ∗ ∃ W', ⌜∀ p ∈ W', p ∈ W ∨ p.2 = none⌝ ∗ owes (thr d L) O W') := by
  rw [body_eq]; unfold body
  rw [(K (F := F)).scopedBufs_V hF d (cV L) (jV L), SparseCore.Cfg.scopedSems0_V (Val := Elt F) d (cV L) (jV L), ownSems0_V, ownBufs_V]
  iintro ⟨#Hlv, -, ⟨Ha, Ho⟩, ⟨⟨%fs, Hs⟩, ⟨%fr, Hr⟩, Hbufs⟩, ⟨HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  ihave Ha' := (Entails.of_eq (pts_slabK (F := F) d L _).symm) $$ Ha
  ihave Ho' := (Entails.of_eq (pts_colK (F := F) d L _).symm) $$ Ho
  ihave Hs' := (Entails.of_eq (pts_sV (F := F) d L _).symm) $$ Hs
  ihave Hr' := (Entails.of_eq (pts_rV (F := F) d L _).symm) $$ Hr
  sl_exec
  ihave Hs2 := (Entails.of_eq (congrArg (fun f => ((sV).view.loc (thr d L) ↦{fullShare} f : sProp 𝕄))
    ((View.write_whole_univ (Val := Elt F) _ _ _).trans (read_slabK L v)))) $$ Hs'
  iapply (wp_loop d L (slabOf v (wid L)) fr _ _)
  isplitl [Hs2]; · iexact Hs2
  isplitl [Hr']; · iexact Hr'
  iintro ⟨Hs3, Hr3⟩
  sl_exec
  ihave Ho2 := (Entails.of_eq (pts_wrote d L v f₁ (tile_body.sl.dma0_1 L v) rfl)) $$ Ho'
  sl_step
  isplitl [Ha' Ho2]
  · isplitl [Ha']; · iapply (Entails.of_eq (pts_slabK (F := F) d L _)); iexact Ha'
    iexact Ho2
  isplitl [Hs3 Hr3 Hbufs]
  · isplitl [Hs3]; · iexists _; iexact Hs3
    isplitl [Hr3]; · iexists _; iexact Hr3
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Tile

end Cert.Proof.Top2
-- ==== Proof.Tasks.lean ====
/-
  What the call hands out and gets back: each SparseCore its sixteen tasks' slabs of the logits and columns of the
  result, each task its own; the tasks' obligation, and the whole arrays cut into the tasks' pieces and joined again.
-/
module

public import proofs.«01_k».proof.Proof.Tile

@[expose] public section

set_option maxRecDepth 16384

noncomputable section

namespace Cert.Proof.Top2

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

local notation "𝕄" => MT nD τ sig (HIx 1) (Elt F) ℕ UU ℕ
local notation "aV" => (Memref.whole Cert.KernelIdeal.main_v0_scv : Memref Cert.KernelIdeal.sig Kind.scVector Space.hbm Cert.KernelIdeal.S32x64x512 EltTy.f32)
local notation "oV" => (Memref.whole Cert.KernelIdeal.main_v1_scv : Memref Cert.KernelIdeal.sig Kind.scVector Space.hbm Cert.KernelIdeal.S4x16384 EltTy.f32)
local notation "sV" => (Memref.whole Cert.KernelIdeal.cc1_scratch0 : Memref Cert.KernelIdeal.sig Kind.scVector Space.vmem Cert.KernelIdeal.S64x512 EltTy.f32)
local notation "rV" => (Memref.whole Cert.KernelIdeal.cc1_scratch1 : Memref Cert.KernelIdeal.sig Kind.scVector Space.vmem Cert.KernelIdeal.S4x512 EltTy.f32)

/-- The number of the task on subcore `i` of SparseCore `c`. -/
def widOf (c : Fin 2) (i : Fin 16) : Fin 32 := ⟨2 * i.val + c.val, by omega⟩

variable (v : Dev nD → S32x64x512.Idx → F .f32) (f₁ : Dev nD → S4x16384.Idx → F .f32)

/-- What task `w` starts from and what it ends with. -/
abbrev goPts (d : Dev nD) (w : Fin 32) : sProp 𝕄 := iprop(slabPts d w (v d) ∗ colPts d w (f₁ d))
/-- What a tile gives back: its slab unchanged and its columns filled. -/
abbrev tdPts (d : Dev nD) (w : Fin 32) : sProp 𝕄 := iprop(slabPts d w (v d) ∗ colPts d w (resAll (v d)))

/-- The call's payloads: a SparseCore takes and returns its sixteen tasks'. -/
def P : (K (F := F)).Pay (nD := nD) (Val := Elt F) (Name := ℕ) (U := UU) where
  st := fun q d c => match q with | 0 => bigSep Finset.univ fun i : Fin 16 => goPts v f₁ d (widOf (Fin.cast nCore_zero c) i)
  dn := fun q d c => match q with | 0 => bigSep Finset.univ fun i : Fin 16 => tdPts v d (widOf (Fin.cast nCore_zero c) i)
  go := fun q d c i => match q with | 0 => goPts v f₁ d (widOf (Fin.cast nCore_zero c) (Fin.cast nSub_zero i))
  td := fun q d c i => match q with | 0 => tdPts v d (widOf (Fin.cast nCore_zero c) (Fin.cast nSub_zero i))
  x := fun _ _ => iprop(emp)

/-- The handshakes' assertions can be stored. -/
instance P_storable : (P v f₁).IsStorable where
  st q d c := match q with
    | 0 => (inferInstance : BI.Storable (upEmb : UEmb _ 𝕄) (bigSep Finset.univ fun i : Fin 16 => goPts v f₁ d (widOf (Fin.cast nCore_zero c) i)))
  dn q d c := match q with
    | 0 => (inferInstance : BI.Storable (upEmb : UEmb _ 𝕄) (bigSep Finset.univ fun i : Fin 16 => tdPts v d (widOf (Fin.cast nCore_zero c) i)))
  go q d c i := match q with
    | 0 => (inferInstance : BI.Storable (upEmb : UEmb _ 𝕄) (goPts v f₁ d (widOf (Fin.cast nCore_zero c) (Fin.cast nSub_zero i))))
  td q d c i := match q with
    | 0 => (inferInstance : BI.Storable (upEmb : UEmb _ 𝕄) (tdPts v d (widOf (Fin.cast nCore_zero c) (Fin.cast nSub_zero i))))

/-! ## The obligation -/

/-- The grid point of SparseCore `c` and subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The table's body for a tile. -/
theorem defs₀_vector (c : Fin τ.nSC) (s : Fin τ.nSub) :
    defs₀ (F := F) (.scVector c s) 1 ()
      = SparseCore.onTile hcore1 hsub1 (fun c s => cc1__sc_top2_body (coordsV c s)
          aV (Memref.isWhole_whole _) oV (Memref.isWhole_whole _)
          sV (Memref.isWhole_whole _) rV (Memref.isWhole_whole _) cc1_scoped0 cc1_scoped1) ⟨⟩ c s := rfl

omit [FloatOps F] in
/-- An obligation is kept when its post-condition is weakened by what is dropped. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile does its task. -/
theorem tileObl (hF : (K (F := F)).Facts) : (K (F := F)).TileObl (D (F := F)) 𝒱 (P v f₁) v₀ 0 := by
  intro d c i O W hO _ _
  simp only [show (P v f₁).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (v d) (f₁ d) O W hO).trans (wp_mono frame _ _ fun _ => obl_post)

/-- The sixteen tasks of a core. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's share is split among its tiles, and joined again. -/
theorem vecSplit : (K (F := F)).VecSplit' (P v f₁) 0 := by
  intro d c
  show (bigSep Finset.univ fun i : Fin 16 => goPts v f₁ d (widOf (Fin.cast nCore_zero c) i)) ⊢ |={Set.univ}=> iprop(
      (bigSep Finset.univ fun i : Fin ((K (F := F)).nSub 0) => goPts v f₁ d (widOf (Fin.cast nCore_zero c) (Fin.cast nSub_zero i)))
      ∗ ((bigSep Finset.univ fun i : Fin ((K (F := F)).nSub 0) => tdPts v d (widOf (Fin.cast nCore_zero c) (Fin.cast nSub_zero i)))
          -∗ bigSep Finset.univ fun i : Fin 16 => tdPts v d (widOf (Fin.cast nCore_zero c) i)))
  rw [bigSep_tasks (F := F) (fun i => goPts v f₁ d (widOf (Fin.cast nCore_zero c) i)),
    bigSep_tasks (F := F) (fun i => tdPts v d (widOf (Fin.cast nCore_zero c) i))]
  iintro H; imodintro
  isplitl [H]; · iexact H
  iintro H; iexact H

/-! ## The whole arrays as the tasks' pieces -/

/-- The pieces of all the tasks, SparseCore by SparseCore, are the pieces of all the tasks by number. -/
theorem bigSep_wid (Φ : Fin 32 → sProp 𝕄) :
    (bigSep Finset.univ fun c : Fin 2 => bigSep Finset.univ fun i : Fin 16 => Φ (widOf c i)) = bigSep Finset.univ Φ := by
  rw [bigSep_univ_comm]
  have h := BI.bigSep_univ_equiv (finProdFinEquiv (m := 16) (n := 2)) Φ
  rw [BI.bigSep_univ_prod] at h
  refine Eq.trans ?_ h.symm
  refine bigSep_congr fun i _ => bigSep_congr fun c _ => congrArg Φ (Fin.ext ?_)
  show 2 * i.val + c.val = c.val + 2 * i.val
  omega

/-- The logits, and the result, whole. -/
abbrev aPts (d : Dev nD) (f : S32x64x512.Idx → F .f32) : sProp 𝕄 := aLoc d ↦{fullShare} (f : Buf (Elt F) (aLoc d))
/-- The table of results held. -/
abbrev oPts (d : Dev nD) (f : S4x16384.Idx → F .f32) : sProp 𝕄 := oLoc d ↦{fullShare} (f : Buf (Elt F) (oLoc d))

/-- The logits held are the 32 slabs held. -/
theorem aPts_slabs (d : Dev nD) (f : S32x64x512.Idx → F .f32) :
    aPts d f = bigSep Finset.univ fun w : Fin 32 => slabPts d w f := by
  unfold aPts; rw [← pointsTo_biUnion Finset.univ (ℓ := aLoc d) slabSet (fun i _ j _ h => Rect.part_disjoint adiv h),
    show (Finset.univ : Finset (Fin 32)).biUnion slabSet = Finset.univ from Rect.biUnion_part adiv]; try rfl
/-- The table held is the 32 blocks of columns held. -/
theorem oPts_cols (d : Dev nD) (f : S4x16384.Idx → F .f32) :
    oPts d f = bigSep Finset.univ fun w : Fin 32 => colPts d w f := by
  unfold oPts; rw [← pointsTo_biUnion Finset.univ (ℓ := oLoc d) colSet (fun i _ j _ h => Rect.part_disjoint odiv h),
    show (Finset.univ : Finset (Fin 32)).biUnion colSet = Finset.univ from Rect.biUnion_part odiv]; try rfl

/-- What the call takes over both SparseCores is the two arrays whole; -/
theorem st0_eq (d : Dev nD) : (bigSep Finset.univ fun c : Fin ((K (F := F)).nCore 0) => (P v f₁).st 0 d c)
    = iprop(aPts d (v d) ∗ oPts d (f₁ d)) := by
  rw [aPts_slabs, oPts_cols, ← bigSep_sep', ← bigSep_wid]; rfl
/-- and what it returns is the logits whole and all the results. -/
theorem dn0_eq (d : Dev nD) : (bigSep Finset.univ fun c : Fin ((K (F := F)).nCore 0) => (P v f₁).dn 0 d c)
    = iprop(aPts d (v d) ∗ oPts d (resAll (v d))) := by
  rw [aPts_slabs, oPts_cols, ← bigSep_sep', ← bigSep_wid]; rfl

end Cert.Proof.Top2
-- ==== Proof.Region.lean ====
/-
  The matrix product on the TensorCore: its body at a symbolic grid point, its proof data, and the call as a
  region of the TensorCore's program. The array it writes ends at the logits of every token.
-/
module

public import proofs.«01_k».proof.Proof.Launch
public import Idealize.ShloMosaic.Lib.Pipeline.ValueKit.Geometry
public import Idealize.ShloMosaic.Lib.Pipeline.FrameBody
public import Idealize.ShloMosaic.Lib.Pipeline.RegionsLoop
public import Idealize.ShloMosaic.Lib.WritesUnit
public import Idealize.ShloMosaic.Lib.Pipeline.Value
public import Idealize.ShloMosaic.Lib.ValueIdx
public import Idealize.ShloMosaic.Lib.ValueLayout

@[expose] public section

set_option maxRecDepth 16384

noncomputable section

namespace Cert.Proof.Top2

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Tactic Idealize.ShloMosaic.ValueIdx

variable {F : FTy → Type} [FloatOps F]

local notation "𝕄" => MT nD τ sig (HIx 1) (Elt F) ℕ UU ℕ

/-! ## The body -/

/-- What the body writes, from the weights and a block of tokens: slab `j` of the block holds the products of its 512
    tokens. -/
def outBlk (wv : S64x2048.Idx → F .f32) (xb : S1024x2048.Idx → F .f32) : S2x64x512.Idx → F .f32 := fun y =>
  k0_pay1 wv xb (ix2 (y 1) ⟨512 * (y 0).val + (y 2).val, by
    have h0 : (y 0).val < 2 := (y 0).isLt
    have h2 : (y 2).val < 512 := (y 2).isLt
    omega⟩)

/-- A load at offset zero, of the memref's own shape, reads it whole. -/
theorem readAt_all {s : Shape} {k : Kind} {sp : Space} {e : EltTy} (M : Memref sig k sp s e) (f : M.view.ty.Contents (Elt F))
    {off : Fin s.rank → ℕ} (h : ∀ a, off a + s.size a ≤ s.size a) (ho : off = fun _ => 0) :
    M.view.readAt (Elt F) (Rect.unit (s := s) off s.size h).toLoadRect f = M.view.read (Elt F) f := by
  subst ho
  funext x
  show M.view.read (Elt F) f ((Rect.unit (s := s) (fun _ => 0) s.size h).emb x) = _
  refine congrArg _ (funext fun a => Fin.ext ?_)
  show 0 + 1 * (x a).val = (x a).val
  omega

/-- The two stores of the body are the two slabs of `outBlk`. -/
theorem read_stores (M2 : Memref sig .tc .vmem S2x64x512 .f32) (f2 : M2.view.ty.Contents (Elt F))
    (wv : S64x2048.Idx → F .f32) (xb : S1024x2048.Idx → F .f32) :
    M2.view.read (Elt F) (M2.view.writes (Elt F) f2
        [⟨Rect.unit ![1, 0, 0] S1x64x512.size inb_S2x64x512_S1x64x512_1_0_0, k0_pay3 wv xb⟩,
          ⟨Rect.unit ![0, 0, 0] S1x64x512.size inb_S2x64x512_S1x64x512_0_0_0, k0_pay2 wv xb⟩])
      = outBlk wv xb := by
  funext y
  have h0 : (y 0).val < 2 := (y 0).isLt
  by_cases hy : (y 0).val = 1
  · refine (View.read_writes_cons_unit_of_mem M2.view f2 inb_S2x64x512_S1x64x512_1_0_0 (k0_pay3 wv xb) _ y
      (ix3 (0 : Fin 1) (y 1) (y 2)) rfl fun a => ?_).trans ?_
    · match a with
      | 0 => exact hy
      | 1 => exact (Nat.zero_add _).symm
      | 2 => exact (Nat.zero_add _).symm
    · unfold k0_pay3
      refine (shapeCast_ab_1ab_apply _ _ _ _ _).trans (extractStridedSlice_apply _ _ _ _ _ fun a => ?_)
      match a with
      | 0 => exact (Nat.zero_add _).symm
      | 1 => show 512 * (y 0).val + (y 2).val = 512 + (y 2).val; omega
  · refine (View.read_writes_cons_unit_of_not_mem M2.view f2 inb_S2x64x512_S1x64x512_1_0_0 (k0_pay3 wv xb) _ y rfl 0
      (Or.inl (show (y 0).val < 1 by omega))).trans ?_
    refine (View.read_writes_cons_unit_of_mem M2.view f2 inb_S2x64x512_S1x64x512_0_0_0 (k0_pay2 wv xb) _ y
      (ix3 (0 : Fin 1) (y 1) (y 2)) rfl fun a => ?_).trans ?_
    · match a with
      | 0 => show (y 0).val = 0 + 0; omega
      | 1 => exact (Nat.zero_add _).symm
      | 2 => exact (Nat.zero_add _).symm
    · unfold k0_pay2
      refine (shapeCast_ab_1ab_apply _ _ _ _ _).trans (extractStridedSlice_apply _ _ _ _ _ fun a => ?_)
      match a with
      | 0 => exact (Nat.zero_add _).symm
      | 1 => show 512 * (y 0).val + (y 2).val = 0 + (y 2).val; omega

/-- One run of the body stores the product's slabs into the output's window. -/
theorem matmul_run (c : Dev nD) (i : grid0.Coords) (M0 : Memref sig .tc .vmem S1024x2048 .f32) (h0 : M0.IsWhole)
    (M1 : Memref sig .tc .vmem S64x2048 .f32) (h1 : M1.IsWhole) (M2 : Memref sig .tc .vmem S2x64x512 .f32) (h2 : M2.IsWhole)
    (f0 : M0.view.ty.Contents (Elt F)) (f1 : M1.view.ty.Contents (Elt F)) (f2 : M2.view.ty.Contents (Elt F)) (Q : PUnit → sProp 𝕄) :
    iprop((M0.view.loc (c : Thread nD τ) ↦[M0.view.set]{fullShare} f0)
        ∗ (M1.view.loc (c : Thread nD τ) ↦[M1.view.set]{fullShare} f1)
        ∗ (M2.view.loc (c : Thread nD τ) ↦[M2.view.set]{fullShare} f2)
        ∗ (iprop((M0.view.loc (c : Thread nD τ) ↦[M0.view.set]{fullShare} f0)
            ∗ (M1.view.loc (c : Thread nD τ) ↦[M1.view.set]{fullShare} f1)
            ∗ ∃ g : M2.view.ty.Contents (Elt F), ⌜M2.view.read (Elt F) g = outBlk (M1.view.read (Elt F) f1) (M0.view.read (Elt F) f0)⌝
              ∗ (M2.view.loc (c : Thread nD τ) ↦[M2.view.set]{fullShare} g)) -∗ Q ⟨⟩))
      ⊢ wp frame (wpE (defs₀ (F := F)) 𝒱₀ (c : Thread nD τ) none) Set.univ (cc0__matmul_body i M0 h0 M1 h1 M2 h2) Q := by
  rw [cc0__matmul_body_eq_skeleton]
  unfold cc0__matmul_body_skel
  iintro ⟨H0, H1, H2, Hk⟩
  sl_exec
  sl_step
  iapply Hk
  isplitl [H0]; · iexact H0
  isplitl [H1]; · iexact H1
  iexists _; isplitr; swap; · iexact H2
  ipureintro
  have hz : (![0, 0] : Fin 2 → ℕ) = fun _ => 0 := funext fun a => by fin_cases a <;> rfl
  rw [readAt_all M1 _ inb_S64x2048_S64x2048_0_0 hz, readAt_all M0 _ inb_S1024x2048_S1024x2048_0_0 hz]
  exact read_stores _ _ _ _

/-! ## The proof data -/

variable (V : (c : Dev nD) → (b : Ref sig .tc) → Buf (Elt F) ((c : Thread nD τ).loc b))

/-- The blocks of the tokens and of the weights that point `t` stages. -/
abbrev xAt (c : Dev nD) (t : Fin cfg0.N) : S1024x2048.Idx → F .f32 := ((cfg0.win 0).blk t).view.read (Elt F) (V c main_arg0)
/-- The block of the experts' matrix at a step. -/
abbrev wAt (c : Dev nD) (t : Fin cfg0.N) : S64x2048.Idx → F .f32 := ((cfg0.win 1).blk t).view.read (Elt F) (V c main_arg1)

/-- The proof data of the call entered at valuation `V`: the inputs' buffers as fetched and the result's at the two slabs
    of the point; meanwhile the core owes the start of the SparseCore call, and has waited on nothing above level 0. -/
def dat (c : Dev nD) : Dat τ (Elt F) (HIx 1) ℕ UU ℕ cfg0 c where
  A w := V c (Pipeline.arrRef spec0 w)
  after w t := match w with
    | ⟨0, _⟩ => xAt V c t
    | ⟨1, _⟩ => wAt V c t
    | ⟨2, _⟩ => outBlk (wAt V c t) (xAt V c t)
  Φ _ := Pipeline.scopedRest (Ix := HIx 1) (Name := ℕ) (U := UU) (Lvl := ℕ) (Val := Elt F) spec0 c
  q _ := fullShare
  owed _ := (K (F := F)).Otc c 0
  recorded _ := {p | (K (F := F)).lev (SparseCore.T c, p.1) p.2 ≤ 0}

/-- At a step the tokens' window holds the step's block. -/
theorem before_x (c : Dev nD) (t : Fin cfg0.N) (d : (cfg0.win 0).block.Idx → Elt F (cfg0.win 0).elt) :
    (dat V c).before 0 t d = xAt V c t :=
  (dat V c).before_in_eq_fetched 0 rfl (fun _ => rfl) (fun _ _ _ => rfl) (fun _ => rfl) t d
/-- At a step the matrix's window holds the matrix. -/
theorem before_w (c : Dev nD) (t : Fin cfg0.N) (d : (cfg0.win 1).block.Idx → Elt F (cfg0.win 1).elt) :
    (dat V c).before 1 t d = wAt V c t :=
  (dat V c).before_in_eq_fetched 1 rfl (fun _ => rfl) (fun _ _ _ => rfl) (fun _ => rfl) t d

/-- The body does at each step what the region's data say. -/
theorem body_obligation (c : Dev nD) : BodyObligation (dat V c) (defs₀ (F := F)) 𝒱₀ none Set.univ := fun t => by
  rw [bigSep_W0, bigSep_W0, show (dat V c).Φ t.castSucc = (dat V c).Φ t.succ from rfl,
    show (dat V c).owesAt none t.castSucc = (dat V c).owesAt none t.succ from rfl]
  unfold owns
  iintro ⟨HΦ, Howes, ⟨%d0, %f0, %hf0, H0⟩, ⟨%d1, %f1, %hf1, H1⟩, ⟨%d2, %f2, -, H2⟩⟩
  rw [before_x] at hf0
  rw [before_w] at hf1
  iapply (matmul_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) f0 f1 f2 _)
  isplitl [H0]; · iexact H0
  isplitl [H1]; · iexact H1
  isplitl [H2]; · iexact H2
  iintro ⟨H0, H1, %g, %hg, H2⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists g; isplitr; swap; (· iexact H2); ipureintro
  rw [hf0, hf1] at hg; exact hg

/-! ## The array the call leaves -/

/-- The block index of each window at point `t`. -/
theorem index0 : ∀ t : Fin grid0.N, win0_0.index t 0 = t.val ∧ win0_0.index t 1 = 0 := by decide +kernel
/-- The matrix's block is the same at each step. -/
theorem index1 : ∀ t : Fin grid0.N, win0_1.index t 0 = 0 ∧ win0_1.index t 1 = 0 := by decide +kernel
/-- The output's block at step `t` is number `t`. -/
theorem index2 : ∀ t : Fin grid0.N, win0_2.index t 0 = t.val ∧ win0_2.index t 1 = 0 ∧ win0_2.index t 2 = 0 := by decide +kernel

/-- The tokens' block at step `t` is block `t` of 1024 tokens. -/
theorem xAt_eq (c : Dev nD) (t : Fin cfg0.N) : xAt V c t = xblk (V c main_arg0) (t.cast N_0) := by
  funext j
  refine congrArg (V c main_arg0) (funext fun a => Fin.ext ?_)
  match a with
  | 0 => show win0_0.index t 0 * 1024 + 1 * (j 0).val = 1024 * t.val + (j 0).val; rw [(index0 t).1]; omega
  | 1 => show win0_0.index t 1 * 2048 + 1 * (j 1).val = (j 1).val; rw [(index0 t).2]; omega
/-- The matrix's block is the whole matrix. -/
theorem wAt_eq (c : Dev nD) (t : Fin cfg0.N) : wAt V c t = V c main_arg1 := by
  funext j
  refine congrArg (V c main_arg1) (funext fun a => Fin.ext ?_)
  match a with
  | 0 => show win0_1.index t 0 * 64 + 1 * (j 0).val = (j 0).val; rw [(index1 t).1]; omega
  | 1 => show win0_1.index t 1 * 2048 + 1 * (j 1).val = (j 1).val; rw [(index1 t).2]; omega

/-- What point `t` writes is its block of the logits. -/
theorem outBlk_eq (x : S16384x2048.Idx → F .f32) (W : S64x2048.Idx → F .f32) (t : Fin cfg0.N) (y : S2x64x512.Idx)
    (z : S32x64x512.Idx) (h0 : (z 0).val = 2 * t.val + (y 0).val) (h1 : (z 1).val = (y 1).val) (h2 : (z 2).val = (y 2).val) :
    outBlk W (xblk x (t.cast N_0)) y = logits x W z := by
  have hy : (y 0).val < 2 := (y 0).isLt
  unfold outBlk logits
  have hb : (t.cast N_0 : Fin 16) = ⟨(z 0).val / 2, by have h : (z 0).val < 32 := (z 0).isLt; omega⟩ := Fin.ext (by
    show t.val = (z 0).val / 2; omega)
  rw [hb]
  refine congrArg (k0_pay1 W _) (funext fun a => Fin.ext ?_)
  match a with
  | 0 => exact h1.symm
  | 1 => show 512 * (y 0).val + (y 2).val = 512 * ((z 0).val % 2) + (z 2).val; omega

/-- After the call the result array holds the logits of all tokens. -/
theorem arr_out (c : Dev nD) : (dat V c).arrAt 2 cfg0.N = logits (V c main_arg0) (V c main_arg1) := by
  refine (dat V c).arrAt_eq_of_covers 2 _ (by decide +kernel) fun t _ y => ?_
  blk_simp
  show outBlk (wAt V c t) (xAt V c t) y = _
  rw [wAt_eq, xAt_eq]
  refine outBlk_eq _ _ t y _ ?_ ?_ ?_
  · show win0_2.index t 0 * 2 + 1 * (y 0).val = _; rw [(index2 t).1]; omega
  · show win0_2.index t 1 * 64 + 1 * (y 1).val = _; rw [(index2 t).2.1]; omega
  · show win0_2.index t 2 * 512 + 1 * (y 2).val = _; rw [(index2 t).2.2]; omega

/-! ## The call as a region -/

/-- No pipeline has tables to fix. -/
abbrev adm : (p : Fin 1) → (pcfgs (F := F) p).Adm := fun p => (cfgs p).toPCfg_adm
/-- The data of the program's one region. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

/-- The core owes nothing at the level its own waits are at. -/
theorem Otc_none (c : Dev nD) (g : GSem nD τ sig) : (K (F := F)).Otc c 0 g none = 0 := by
  by_contra h
  have := (K (F := F)).lev_of_Otc_pos (Nat.pos_of_ne_zero h)
  rw [SparseCore.Cfg.lev_none] at this
  omega

set_option backward.isDefEq.respectTransparency.types false in
/-- The region as a step of the program: it turns the arrays `V` into `Vp`. -/
def reg (hVp_out : ∀ c, Vp c main_v0 = logits (V c main_arg0) (V c main_arg1))
    (hVp_ne : ∀ c (b : Ref sig .tc), b ≠ main_v0 → Vp c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro (Pipeline.pin (pcfgs (F := F)) adm) (pdats V) none 0 c
    (fun w s t => (K (F := F)).mayWait_none _ (fun g => Otc_none c g))
  pre c := iprop(unscopedBufs c (V c) ∗ ∃ W, ⌜(K (F := F)).WBelow (SparseCore.T c) W 0⌝ ∗ owes (SparseCore.T c) ((K (F := F)).Otc c 0) W)
  post c := iprop(unscopedBufs c (Vp c) ∗ ∃ W, ⌜(K (F := F)).WBelow (SparseCore.T c) W 0⌝ ∗ owes (SparseCore.T c) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_arg0 (by decide)).symm
        · exact ((pdats V 0 c).arrAt_in 1 rfl _).trans (hVp_ne c main_arg1 (by decide)).symm
        · exact (arr_out V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

end Cert.Proof.Top2
-- ==== Proof.Main.lean ====
/-
  The run of the whole program: the matrix product on the TensorCore, the walk over the experts on the SparseCores, and
  the five host operations that cut the two results out of the table. It is stated over any float values; what the
  two results hold is an explicit function of the two arguments.
-/
module

public import proofs.«01_k».proof.Proof.Tasks
public import proofs.«01_k».proof.Proof.Region
public import Idealize.ShloMosaic.Lib.SparseCore.Quiescent
public import Idealize.ShloMosaic.Lib.Pipeline.Frame

@[expose] public section

set_option maxRecDepth 16384

noncomputable section

namespace Cert.Proof.Top2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.StableHlo (held wp_hlo_within)

variable {F : FTy → Type} [FloatOps F]

local notation "𝕄" => MT nD τ sig (HIx 1) (Elt F) ℕ UU ℕ

/-! ## The buffers and the host operations -/

/-- The tokens. -/
abbrev x' : DevRef τ sig := Proc.devRef .tc (main_arg0 : Ref sig .tc)
/-- The experts' matrix. -/
abbrev w' : DevRef τ sig := Proc.devRef .tc (main_arg1 : Ref sig .tc)
/-- The logits. -/
abbrev a' : DevRef τ sig := Proc.devRef .tc (main_v0 : Ref sig .tc)
/-- The table of results. -/
abbrev o' : DevRef τ sig := Proc.devRef .tc (main_v1 : Ref sig .tc)
/-- The experts' two rows of the table. -/
abbrev ti' : DevRef τ sig := Proc.devRef .tc (main_v2 : Ref sig .tc)
/-- These rows transposed. -/
abbrev ci' : DevRef τ sig := Proc.devRef .tc (main_v3 : Ref sig .tc)
/-- The result: the experts. -/
abbrev ri' : DevRef τ sig := Proc.devRef .tc (main_v4 : Ref sig .tc)
/-- The weights' two rows of the table. -/
abbrev tw' : DevRef τ sig := Proc.devRef .tc (main_v5 : Ref sig .tc)
/-- The result: the weights. -/
abbrev rw' : DevRef τ sig := Proc.devRef .tc (main_v6 : Ref sig .tc)

/-- Rows 0 and 1 of the table: the experts. -/
abbrev opTi : HloOp τ sig (Elt F) := StableHlo.unary main_v1 main_v2 (extractStridedSlice S2x16384 ![0, 0] · slices_S4x16384_S2x16384_0_0)
/-- Transposed. -/
abbrev opCi : HloOp τ sig (Elt F) := StableHlo.unary main_v2 main_v3 (transpose S16384x2 [1, 0] · transposes_S2x16384_S16384x2_1_0)
/-- As integers. -/
abbrev opRi : HloOp τ sig (Elt F) := StableHlo.unary main_v3 main_v4 (fptosi 32)
/-- Rows 2 and 3 of the table: the weights. -/
abbrev opTw : HloOp τ sig (Elt F) := StableHlo.unary main_v1 main_v5 (extractStridedSlice S2x16384 ![2, 0] · slices_S4x16384_S2x16384_2_0)
/-- Transposed. -/
abbrev opRw : HloOp τ sig (Elt F) := StableHlo.unary main_v5 main_v6 (transpose S16384x2 [1, 0] · transposes_S2x16384_S16384x2_1_0)

/-- The arrays of @main. -/
abbrev S9 : Finset (DevRef τ sig) := {a', o', x', w', ri', rw', ti', ci', tw'}

omit [FloatOps F] in
/-- The arrays of @main held are nine whole arrays held. -/
theorem held_S9 (d : Dev nD) (W : Valuation τ sig (Elt F)) :
    (held (SparseCore.T d) S9 W : sProp 𝕄)
      = iprop((loc d main_v0 ↦{fullShare} W a') ∗ (loc d main_v1 ↦{fullShare} W o') ∗ (loc d main_arg0 ↦{fullShare} W x')
          ∗ (loc d main_arg1 ↦{fullShare} W w') ∗ (loc d main_v4 ↦{fullShare} W ri') ∗ (loc d main_v6 ↦{fullShare} W rw')
          ∗ (loc d main_v2 ↦{fullShare} W ti') ∗ (loc d main_v3 ↦{fullShare} W ci') ∗ loc d main_v5 ↦{fullShare} W tw') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- They are all that no call's region holds for itself. -/
theorem ucRefs_eq : Pipeline.ucRefs τ sig = S9 := by decide

omit [FloatOps F] in
/-- The TensorCore's arrays, held at a valuation. -/
theorem unscoped_held (d : Dev nD) (W : Valuation τ sig (Elt F)) :
    (unscopedBufs d (fun b => W (Proc.devRef .tc b)) : sProp 𝕄) = held (SparseCore.T d) S9 W := by
  rw [← ucRefs_eq]; exact Pipeline.unscopedBufs_held d W

/-- The host operations touch only the arrays of @main. -/
theorem sub_Ti : (opTi (F := F)).bufs ⊆ S9 := show ({o', ti'} : Finset (DevRef τ sig)) ⊆ S9 by decide
/-- The transpose of the experts' rows does. -/
theorem sub_Ci : (opCi (F := F)).bufs ⊆ S9 := show ({ti', ci'} : Finset (DevRef τ sig)) ⊆ S9 by decide
/-- The conversion of the experts does. -/
theorem sub_Ri : (opRi (F := F)).bufs ⊆ S9 := show ({ci', ri'} : Finset (DevRef τ sig)) ⊆ S9 by decide
/-- The cut of the weights' rows does. -/
theorem sub_Tw : (opTw (F := F)).bufs ⊆ S9 := show ({o', tw'} : Finset (DevRef τ sig)) ⊆ S9 by decide
/-- The transpose of the weights' rows does. -/
theorem sub_Rw : (opRw (F := F)).bufs ⊆ S9 := show ({tw', rw'} : Finset (DevRef τ sig)) ⊆ S9 by decide

/-! ## The valuations along the run -/

/-- The experts of every token, and their weights, from the table. -/
def tabExperts (R : S4x16384.Idx → F .f32) : IVec S16384x2 32 :=
  fptosi 32 (transpose S16384x2 [1, 0] (extractStridedSlice S2x16384 ![0, 0] (R : FVec F S4x16384 .f32) slices_S4x16384_S2x16384_0_0)
    transposes_S2x16384_S16384x2_1_0 : FVec F S16384x2 .f32)
/-- The weights from the table. -/
def tabWeights (R : S4x16384.Idx → F .f32) : FVec F S16384x2 .f32 :=
  transpose S16384x2 [1, 0] (extractStridedSlice S2x16384 ![2, 0] (R : FVec F S4x16384 .f32) slices_S4x16384_S2x16384_2_0)
    transposes_S2x16384_S16384x2_1_0

variable (m : (ℓ : Loc nD τ sig) → Buf (Elt F) ℓ) (ρ : Dev nD → PrngReg)

/-- At the launch, after the product, after the walk. -/
def V0 (d : Dev nD) : Valuation τ sig (Elt F) := fun b => m (d, b)
/-- The logits of device `d`. -/
def lg (d : Dev nD) : S32x64x512.Idx → F .f32 := logits (m (loc d main_arg0)) (m (loc d main_arg1))
/-- The table of results of device `d`. -/
def tab (d : Dev nD) : S4x16384.Idx → F .f32 := resAll (lg m d)
/-- The arrays after the matrix product. -/
def V1 (d : Dev nD) : Valuation τ sig (Elt F) := Function.update (V0 m d) a' (lg m d)
/-- The arrays after the SparseCore call. -/
def V2 (d : Dev nD) : Valuation τ sig (Elt F) := Function.update (V1 m d) o' (tab m d)
/-- After the experts' three operations, and at the end. -/
def V5 (d : Dev nD) : Valuation τ sig (Elt F) := (opRi (F := F)).result ((opCi (F := F)).result ((opTi (F := F)).result (V2 m d)))
/-- The arrays after the weights' two operations. -/
def V7 (d : Dev nD) : Valuation τ sig (Elt F) := (opRw (F := F)).result ((opTw (F := F)).result (V5 m d))

/-- After the matrix product the logits' array holds the logits. -/
theorem V1_a (d : Dev nD) : V1 m d a' = lg m d := Function.update_self _ _ _
/-- The matrix product changes no other array. -/
theorem V1_ne (d : Dev nD) {b : DevRef τ sig} (h : b ≠ a') : V1 m d b = V0 m d b := Function.update_of_ne h _ _
/-- After the SparseCore call the table holds the results. -/
theorem V2_o (d : Dev nD) : V2 m d o' = tab m d := Function.update_self _ _ _
/-- The SparseCore call changes no other array. -/
theorem V2_ne (d : Dev nD) {b : DevRef τ sig} (h : b ≠ o') : V2 m d b = V1 m d b := Function.update_of_ne h _ _

/-- What the experts' operations don't write they keep. -/
theorem V5_ne (d : Dev nD) {b : DevRef τ sig} (h : b ∉ ({ti', ci', ri'} : Finset (DevRef τ sig))) : V5 m d b = V2 m d b := by
  simp only [Finset.mem_insert, Finset.mem_singleton, not_or] at h
  unfold V5
  rw [(opRi (F := F)).result_of_not_mem _ (show b ∉ ({ri'} : Finset (DevRef τ sig)) from fun e => h.2.2 (Finset.mem_singleton.mp e)),
    (opCi (F := F)).result_of_not_mem _ (show b ∉ ({ci'} : Finset (DevRef τ sig)) from fun e => h.2.1 (Finset.mem_singleton.mp e)),
    (opTi (F := F)).result_of_not_mem _ (show b ∉ ({ti'} : Finset (DevRef τ sig)) from fun e => h.1 (Finset.mem_singleton.mp e))]

/-- What the weights' operations don't write they keep. -/
theorem V7_ne (d : Dev nD) {b : DevRef τ sig} (h : b ∉ ({tw', rw'} : Finset (DevRef τ sig))) : V7 m d b = V5 m d b := by
  simp only [Finset.mem_insert, Finset.mem_singleton, not_or] at h
  unfold V7
  rw [(opRw (F := F)).result_of_not_mem _ (show b ∉ ({rw'} : Finset (DevRef τ sig)) from fun e => h.2 (Finset.mem_singleton.mp e)),
    (opTw (F := F)).result_of_not_mem _ (show b ∉ ({tw'} : Finset (DevRef τ sig)) from fun e => h.1 (Finset.mem_singleton.mp e))]

/-- The arguments end as they began. -/
theorem V7_x (d : Dev nD) : V7 m d x' = m (loc d main_arg0) := by
  rw [V7_ne m d (by decide), V5_ne m d (by decide), V2_ne m d (by decide), V1_ne m d (by decide)]; rfl
/-- The experts' matrix ends as it began. -/
theorem V7_w (d : Dev nD) : V7 m d w' = m (loc d main_arg1) := by
  rw [V7_ne m d (by decide), V5_ne m d (by decide), V2_ne m d (by decide), V1_ne m d (by decide)]; rfl

/-- The first result: the experts. -/
theorem V7_ri (d : Dev nD) : V7 m d ri' = tabExperts (tab m d) := by
  rw [V7_ne m d (by decide)]
  unfold V5 tabExperts
  rw [StableHlo.unary_result, StableHlo.unary_result, StableHlo.unary_result]
  rw [show V2 m d (Proc.devRef .tc main_v1) = tab m d from V2_o m d]

/-- The second result: the weights. -/
theorem V7_rw (d : Dev nD) : V7 m d rw' = tabWeights (tab m d) := by
  unfold V7 tabWeights
  rw [StableHlo.unary_result, StableHlo.unary_result, V5_ne m d (by decide)]
  rw [show V2 m d (Proc.devRef .tc main_v1) = tab m d from V2_o m d]

/-! ## The launch element -/

/-- The first call's ghost state on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The ghost state at the start. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch's handshakes carry, for these arguments. -/
abbrev Pm := P (F := F) (lg m) (fun d => m (loc d main_v1))

omit [FloatOps F] in
/-- There is one call: what every device holds for each call it holds for the first. -/
theorem at_zero (Ψ : Dev nD → Fin 1 → sProp 𝕄) :
    (bigSep Finset.univ fun c => bigSep Finset.univ fun p => Ψ c p) = bigSep Finset.univ fun c => Ψ c 0 :=
  bigSep_congr fun _ _ => bigSep_univ_of_subsingleton (0 : Fin 1)

/-- The ghost state at the start gives the handshakes' and the pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H := (own_pair_emb embR _ _) $$ HR
  icases H with ⟨HP, -⟩
  rw [show ((Emb.inl : Emb UP (UP × Counters)).trans embR : Emb UP 𝕄) = EP from rfl]
  imod (Pipeline.fund_ghost (Pipeline.pin (pcfgs (F := F)) adm) (EP (F := F)) cellOf_inj) $$ HP with Hg
  icases Hg with ⟨Hg, Ht⟩
  imodintro
  isplitl [HH]; · iexact HH
  isplitl [Hg Ht]
  · rw [bigSep_sep']
    isplitl [Hg]
    · iapply (Entails.of_eq (at_zero fun c p => Pipeline.cellsGhost (Pipeline.pin (pcfgs (F := F)) adm) EP p c)); iexact Hg
    · iapply (Entails.of_eq (at_zero fun c p => Pipeline.toksInit (Pipeline.pin (pcfgs (F := F)) adm) EP p c)); iexact Ht
  have hx : (bigSep Finset.univ fun thr : Thread nD τ => bigSep Finset.univ fun q : Fin 1 => (Pm m).x q thr) = (BI.emp : sProp 𝕄) :=
    (bigSep_congr fun _ _ => bigSep_univ_of_subsingleton (0 : Fin 1)).trans (bigSep_emp_const _)
  rw [hx]
  iempintro

/-! ## @main -/

/-- The arrays' contents by reference, before and after the product. -/
abbrev Vr (c : Dev nD) (b : Ref sig .tc) : Buf (Elt F) (loc c b) := V0 m c (Proc.devRef .tc b)
/-- The arrays as the pipeline names them. -/
abbrev Vp (c : Dev nD) (b : Ref sig .tc) : Buf (Elt F) (loc c b) := V1 m c (Proc.devRef .tc b)

/-- The product's region, from the launch contents. -/
abbrev regm := reg (F := F) (Vr m) (Vp m) (fun c => V1_a m c)
  (fun c b hb => V1_ne m c fun h => hb (Proc.devRef_injective _ h))

/-- The arrays at given contents, and what the core owes, its waits all at the lowest level. -/
abbrev around (d : Dev nD) (W : Valuation τ sig (Elt F)) : sProp 𝕄 :=
  iprop(unscopedBufs d (fun b => W (Proc.devRef .tc b))
    ∗ ∃ W, ⌜(K (F := F)).WBelow (SparseCore.T d) W 0⌝ ∗ owes (SparseCore.T d) ((K (F := F)).Otc d 0) W)
/-- The region starts from the arrays at the start. -/
theorem regm_pre (d : Dev nD) : (regm m).pre d = around d (V0 m d) := rfl
/-- The region ends with the logits in their array. -/
theorem regm_post (d : Dev nD) : (regm m).post d = around d (V1 m d) := rfl

/-- What @main leaves the claims: the arguments unchanged, the two results. -/
abbrev FIN (d : Dev nD) : sProp 𝕄 :=
  iprop((loc d main_arg0 ↦{fullShare} V7 m d x') ∗ (loc d main_arg1 ↦{fullShare} V7 m d w')
    ∗ (loc d main_v4 ↦{fullShare} V7 m d ri') ∗ loc d main_v6 ↦{fullShare} V7 m d rw')

set_option backward.isDefEq.respectTransparency.types false in
/-- The call of the product at the head of @main: the arrays go from the launch contents to those with the logits. -/
theorem region_step (κ : GSem nD τ sig → ℕ) (d : Dev nD) {Φ : PUnit → sProp 𝕄} :
    iprop((K (F := F)).ctx EH (Pm m) κ ∗ boundary (SparseCore.T d) ∗ around d (V0 m d) ∗ G (F := F) d
        ∗ ((boundary (SparseCore.T d) ∗ around d (V1 m d)) -∗ Φ ⟨⟩))
      ⊢ wp frame (wpE ((K (F := F)).defs (D (F := F))) 𝒱 (SparseCore.T d) none) Set.univ
          (Prog.lift (.customCall (SparseCore.inner (Pipeline.entry 0)) ())) Φ := by
  have h := (K (F := F)).wp_liftProg (D (F := F)) 𝒱 (SparseCore.T d) Set.univ none
    (Prog.op (TpuEff.customCall (Pipeline.entry 0) ()) Prog.ret) Φ
  rw [← regm_pre, ← regm_post]
  iintro ⟨#Hctx, Hb, Hpre, ⟨Hg, Htok⟩, Hk⟩
  iapply h
  ihave Hlev := (SparseCore.Cfg.ctx_levAts κ) $$ Hctx
  iapply (Pipeline.RegionSeg.wp (pcfgs (F := F)) adm (pdats (Vr m)) none cellOf_inj (EP (F := F)) defs₀ 𝒱₀ (K (F := F)).L (K (F := F)).lev
    (regm m) d none (fun _ h => nomatch h) .ret _)
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Htok

set_option backward.isDefEq.respectTransparency.types false in
/-- @main on device `d`'s TensorCore. -/
theorem hmain (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, Hg, Htok⟩
  ihave Hst := (Entails.of_eq (show (K (F := F)).tcSt EH d 0 = _ from by unfold SparseCore.Cfg.tcSt; rfl)) $$ Hst
  icases Hst with ⟨HO, Hst⟩
  iapply (region_step m κ d) $$ [Hb Hub HO Hg Htok Hst Hts]
  isplitr; · iexact Hctx
  isplitl [Hb]; · iexact Hb
  isplitl [Hub HO]
  · isplitl [Hub]; · iexact Hub
    iexact HO
  isplitl [Hg Htok]
  · isplitl [Hg] <;> iassumption
  iintro ⟨Hb, Hub, HO⟩
  ihave Hheld := (Entails.of_eq ((unscoped_held (F := F) d (V1 m d)).trans (held_S9 d (V1 m d)))) $$ Hub
  icases Hheld with ⟨Ha, Ho, Hx, Hw, Hri, Hrw, Hti, Hci, Htw⟩
  -- the walk on the SparseCores
  iapply ((K (F := F)).wp_run (D (F := F)) 𝒱 (EH := EH) (P := Pm m) κ d 0) $$ [Hst HO Ha Ho Hb Hx Hw Hri Hrw Hti Hci Htw Hts]
  isplitr; · iexact Hctx
  isplitl [Hst HO]
  · unfold SparseCore.Cfg.tcSt
    isplitl [HO]; · iexact HO
    iexact Hst
  isplitl [Ha Ho]
  · rw [st0_eq]
    isplitl [Ha]
    · rw [V1_a]; iexact Ha
    · rw [V1_ne m d (by decide)]; iexact Ho
  iintro ⟨Hst, Hdn⟩
  ihave Hdn := (Entails.of_eq (dn0_eq (lg m) (fun d => m (loc d main_v1)) d)) $$ Hdn
  icases Hdn with ⟨Ha, Ho⟩
  -- the host operations
  iapply (wp_hlo_within 𝒱 (SparseCore.T d) none Set.univ (op := opTi) (S := S9) sub_Ti (V := V2 m d)) $$ [Hb Ha Ho Hx Hw Hri Hrw Hti Hci Htw]
  · isplitl [Hb]; · iexact Hb
    rw [held_S9, V2_o, V2_ne m d (b := a') (by decide), V2_ne m d (b := x') (by decide), V2_ne m d (b := w') (by decide),
      V2_ne m d (b := ri') (by decide), V2_ne m d (b := rw') (by decide), V2_ne m d (b := ti') (by decide), V2_ne m d (b := ci') (by decide),
      V2_ne m d (b := tw') (by decide), V1_a]
    isplitl [Ha]; · iexact Ha
    isplitl [Ho]; · iexact Ho
    isplitl [Hx]; · iexact Hx
    isplitl [Hw]; · iexact Hw
    isplitl [Hri]; · iexact Hri
    isplitl [Hrw]; · iexact Hrw
    isplitl [Hti]; · iexact Hti
    isplitl [Hci]; · iexact Hci
    iexact Htw
  iintro ⟨Hb, Hheld⟩
  rw [wp_ret]; imodintro
  iapply (wp_hlo_within 𝒱 (SparseCore.T d) none Set.univ (op := opCi) (S := S9) sub_Ci) $$ [Hb Hheld]
  · isplitl [Hb] <;> iassumption
  iintro ⟨Hb, Hheld⟩
  rw [wp_ret]; imodintro
  iapply (wp_hlo_within 𝒱 (SparseCore.T d) none Set.univ (op := opRi) (S := S9) sub_Ri) $$ [Hb Hheld]
  · isplitl [Hb] <;> iassumption
  iintro ⟨Hb, Hheld⟩
  rw [wp_ret]; imodintro
  iapply (wp_hlo_within 𝒱 (SparseCore.T d) none Set.univ (op := opTw) (S := S9) sub_Tw) $$ [Hb Hheld]
  · isplitl [Hb] <;> iassumption
  iintro ⟨Hb, Hheld⟩
  rw [wp_ret]; imodintro
  iapply (wp_hlo_within 𝒱 (SparseCore.T d) none Set.univ (op := opRw) (S := S9) sub_Rw) $$ [Hb Hheld]
  · isplitl [Hb] <;> iassumption
  iintro ⟨Hb, Hheld⟩
  ihave Hh := (Entails.of_eq (show held (SparseCore.T d) S9 (opRw.result (opTw.result (opRi.result (opCi.result (opTi.result (V2 m d)))))) = _ from
    held_S9 d (V7 m d))) $$ Hheld
  icases Hh with ⟨-, -, Hx, Hw, Hri, Hrw, -⟩
  rw [wp_ret]; imodintro; imodintro
  isplitl [Hst]; · iexact Hst
  isplitr [Hb Hts]
  · isplitl [Hx]; · iexact Hx
    isplitl [Hw]; · iexact Hw
    isplitl [Hri]; · iexact Hri
    iexact Hrw
  isplitl [Hb] <;> iassumption

/-! ## The program's run -/

/-- What the claims read of device `d`'s final state. -/
def fq (d : Dev nD) (s' : Phys nD τ sig (Elt F)) : Prop :=
  s'.mem.mem (loc d main_arg0) = m (loc d main_arg0) ∧ s'.mem.mem (loc d main_arg1) = m (loc d main_arg1)
    ∧ s'.mem.mem (loc d main_v4) = tabExperts (tab m d) ∧ s'.mem.mem (loc d main_v6) = tabWeights (tab m d)

omit [FloatOps F] in
/-- A whole array held is what the memory holds. -/
theorem agree_whole (s' : Phys nD τ sig (Elt F)) (ℓ : Loc nD τ sig) (f : Buf (Elt F) ℓ) :
    iprop((ℓ ↦{fullShare} f) ∗ SI s') ⊢ iprop(⌜s'.mem.mem ℓ = f⌝ ∗ SI s' : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

/-- What is held at the end fixes the final memory. -/
theorem hfin (d : Dev nD) (s' : Phys nD τ sig (Elt F)) : iprop(FIN m d ∗ SI s') ⊢ (⌜fq m d s'⌝ : sProp 𝕄) := by
  iintro ⟨⟨Hx, Hw, Hri, Hrw⟩, HSI⟩
  ihave H := (agree_whole s' _ _) $$ [Hx HSI]
  · isplitl [Hx] <;> iassumption
  icases H with ⟨%hx, HSI⟩
  ihave H := (agree_whole s' _ _) $$ [Hw HSI]
  · isplitl [Hw] <;> iassumption
  icases H with ⟨%hw, HSI⟩
  ihave H := (agree_whole s' _ _) $$ [Hri HSI]
  · isplitl [Hri] <;> iassumption
  icases H with ⟨%hri, HSI⟩
  ihave H := (agree_whole s' _ _) $$ [Hrw HSI]
  · isplitl [Hrw] <;> iassumption
  icases H with ⟨%hrw, -⟩
  ipureintro
  exact ⟨hx.trans (V7_x m d), hw.trans (V7_w m d), hri.trans (V7_ri m d), hrw.trans (V7_rw m d)⟩

/-- The final states: on every device the arguments unchanged and the two results; all semaphores at zero. -/
def QC : PUnit × MemSt nD τ sig (Elt F) → Prop := fun r =>
  (∀ d : Dev nD, r.2.mem (loc d main_arg0) = m (loc d main_arg0) ∧ r.2.mem (loc d main_arg1) = m (loc d main_arg1)
    ∧ r.2.mem (loc d main_v4) = tabExperts (tab m d) ∧ r.2.mem (loc d main_v6) = tabWeights (tab m d)) ∧ r.2.sem = fun _ => 0

/-- Every run of the program terminates without fault in such a state. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (lg m) (fun d => m (loc d main_v1)) facts)
    (fun q _ => match q with | 0 => SparseCore.Cfg.VecSplit.of_plain (vecSplit (lg m) (fun d => m (loc d main_v1))))
    m ρ main (fun d => G d) (FIN m) (u₀ (F := F)) (sep_elim_left.trans (hu₀ m)) (hmain m ρ) (fq m) (hfin m) (QC m) (fun _ h hz => ⟨h, hz⟩)

end Cert.Proof.Top2
-- ==== Proof.Frames.lean ====
/-
  The frames of the kernel's two programs. They have the same text, so the run of the idealized one, which is stated
  over any float values, is a run of both.
-/
module

public import proofs.«01_k».proof.Proof.Main
public import proofs.«01_k».proof.Proof.Gen.Kernel.Launch
public import proofs.«01_k».proof.Proof.Gen.Pre_finite
public import proofs.«01_k».proof.Defs
public import Idealize.ShloMosaic.Adequacy
public import Idealize.ShloMosaic.Init

@[expose] public section

noncomputable section

namespace Cert.Proof.Top2

open Idealize.ShloMosaic Idealize.SL.Sem

attribute [local instance] Cert.Kernel.Gen.facts

variable {F : FTy → Type} [FloatOps F]

/-- The two programs run the same kernels. -/
theorem defs₀_eq : Cert.Kernel.defs₀ (F := F) = Cert.KernelIdeal.defs₀ (F := F) := by
  funext pr ℓ a
  match pr, ℓ, a with
  | .tc, 0, (t, s) => rfl
  | .scVector c s, 1, _ => rfl
  | .tc, 1, _ => rfl
  | .scVector c s, 0, _ => rfl
  | .scScalar _, 0, _ => rfl
  | .scScalar _, 1, _ => rfl

/-- So do their pipelines and launches. -/
theorem defs_eq : Cert.Kernel.defs (F := F) = Cert.KernelIdeal.defs (F := F) := by
  unfold Cert.Kernel.defs
  rw [defs₀_eq]
  rfl

/-- The printed program terminates without fault, its arguments unchanged and its semaphores at zero. -/
theorem frame_kernel : @Cert.quiescent_Kernel Cert.Kernel.Gen.facts := fun m ρ _ => by
  rw [defs_eq]
  exact (θ_run Cert.KernelIdeal.defs _ _).mono (fun r (h : QC m r) => ⟨fun c => ⟨(h.1 c).1, (h.1 c).2.1⟩, h.2⟩) (run_main (F := Bits) m ρ)

/-- So does the idealized one. -/
theorem frame_ideal : @Cert.quiescent_KernelIdeal Cert.KernelIdeal.Gen.facts := fun m ρ _ =>
  (θ_run Cert.KernelIdeal.defs _ _).mono (fun r (h : QC m r) => ⟨fun c => ⟨(h.1 c).1, (h.1 c).2.1⟩, h.2⟩) (run_main (F := Ideal) m ρ)

end Cert.Proof.Top2
-- ==== Proof.TopTwo.lean ====
/-
  The two greatest of a row of 64 extended reals. Both programs pick the same two positions: the walk over the experts,
  which keeps the two greatest seen, and the stable descending sort, whose first two positions they are. A tie goes to
  the smaller position in both.
-/
module

public import proofs.«01_k».proof.Proof.Launch
public import Idealize.ShloMosaic.PureOps.Ideal
public import Idealize.ShloMosaic.Lib.SortFacts

@[expose] public section

noncomputable section

namespace Cert.Proof.Top2

open Idealize.ShloMosaic

/-! ## The order -/

/-- Position `a` is picked before position `e`: its value is greater, or it is the smaller position of a tie. -/
def Better {n : ℕ} (g : Fin n → EReal) (a e : Fin n) : Prop := g e < g a ∨ (g e = g a ∧ a < e)

/-- What is picked before has at least the value. -/
theorem Better.le {n : ℕ} {g : Fin n → EReal} {a e : Fin n} (h : Better g a e) : g e ≤ g a :=
  h.elim le_of_lt fun h => h.1.le

/-- Of two positions only one is picked before the other. -/
theorem Better.asymm {n : ℕ} {g : Fin n → EReal} {a e : Fin n} (h : Better g a e) (h' : Better g e a) : False := by
  rcases h with h | ⟨h, l⟩ <;> rcases h' with h' | ⟨h', l'⟩
  · exact lt_asymm h h'
  · exact absurd h' h.ne'
  · exact absurd h h'.ne'
  · exact lt_asymm l l'

/-- An earlier position with at least the value is picked before. -/
theorem Better.of_le {n : ℕ} {g : Fin n → EReal} {a e : Fin n} (h : g e ≤ g a) (l : a < e) : Better g a e :=
  h.lt_or_eq.imp id fun h => ⟨h, l⟩

/-- Among the positions `A`, `b` is picked first and `s` second. -/
structure FirstTwo {n : ℕ} (g : Fin n → EReal) (A : Fin n → Prop) (b s : Fin n) : Prop where
  memb : A b
  mems : A s
  ne : b ≠ s
  first : ∀ e, A e → e ≠ b → Better g b e
  next : ∀ e, A e → e ≠ b → e ≠ s → Better g s e

/-- The first two are determined. -/
theorem FirstTwo.unique {n : ℕ} {g : Fin n → EReal} {A : Fin n → Prop} {b s b' s' : Fin n} (h : FirstTwo g A b s)
    (h' : FirstTwo g A b' s') : b = b' ∧ s = s' := by
  have hb : b = b' := by
    by_contra hne
    exact (h.first b' h'.memb (Ne.symm hne)).asymm (h'.first b h.memb hne)
  subst hb
  refine ⟨rfl, ?_⟩
  by_contra hne
  exact (h.next s' h'.mems h'.ne.symm (Ne.symm hne)).asymm (h'.next s h.mems h.ne.symm hne)

/-- A later position joins the set: the three cases of the walk's step. -/
theorem FirstTwo.insert_first {n : ℕ} {g : Fin n → EReal} {A : Fin n → Prop} {b s e : Fin n} (h : FirstTwo g A b s) (he : ∀ a, A a → a < e)
    (hv : g b < g e) : FirstTwo g (fun a => A a ∨ a = e) e b where
  memb := .inr rfl
  mems := .inl h.memb
  ne := (he b h.memb).ne'
  first a ha hne := by
    have ha := ha.resolve_right hne
    by_cases hab : a = b
    · exact .inl (hab ▸ hv)
    · exact .inl ((h.first a ha hab).le.trans_lt hv)
  next a ha hne hab := h.first a (ha.resolve_right hne) hab

/-- The second case: it is not greater than the first, but greater than the second. -/
theorem FirstTwo.insert_second {n : ℕ} {g : Fin n → EReal} {A : Fin n → Prop} {b s e : Fin n} (h : FirstTwo g A b s) (he : ∀ a, A a → a < e)
    (hv : g e ≤ g b) (hs : g s < g e) : FirstTwo g (fun a => A a ∨ a = e) b e where
  memb := .inl h.memb
  mems := .inr rfl
  ne := (he b h.memb).ne
  first a ha hne := by
    rcases ha with ha | rfl
    · exact h.first a ha hne
    · exact .of_le hv (he b h.memb)
  next a ha hab hne := by
    have ha := ha.resolve_right hne
    by_cases has : a = s
    · exact .inl (has ▸ hs)
    · exact .inl ((h.next a ha hab has).le.trans_lt hs)

/-- The third case: it is not greater than the second. -/
theorem FirstTwo.insert_none {n : ℕ} {g : Fin n → EReal} {A : Fin n → Prop} {b s e : Fin n} (h : FirstTwo g A b s) (he : ∀ a, A a → a < e)
    (hs : g e ≤ g s) : FirstTwo g (fun a => A a ∨ a = e) b s where
  memb := .inl h.memb
  mems := .inl h.mems
  ne := h.ne
  first a ha hne := by
    rcases ha with ha | rfl
    · exact h.first a ha hne
    · exact .of_le (hs.trans (h.first s h.mems h.ne.symm).le) (he b h.memb)
  next a ha hab hne := by
    rcases ha with ha | rfl
    · exact h.next a ha hab hne
    · exact .of_le hs (he s h.mems)

/-! ## The walk -/

/-- The state of a walk that has `b` as the best and `s` as the second best. -/
def St1.at (g : Fin 64 → EReal) (b s : Fin 64) : St1 Ideal := ⟨g s, BitVec.ofNat 32 s.val, g b, BitVec.ofNat 32 b.val⟩

/-- The comparison "greater" at the ideal values. -/
theorem cmpf_gt_of_lt {x y : EReal} (h : y < x) : FloatOps.cmpf (F := Ideal) (φ := .f32) .ogt x y = 1#1 := by
  show BitVec.ofBool (decide (y < x)) = 1#1
  rw [decide_eq_true h]
  rfl

/-- It fails where the left value is at most the right one. -/
theorem cmpf_gt_of_le {x y : EReal} (h : x ≤ y) : FloatOps.cmpf (F := Ideal) (φ := .f32) .ogt x y = 0#1 := by
  show BitVec.ofBool (decide (y < x)) = 0#1
  rw [decide_eq_false (not_lt.mpr h)]
  rfl

/-- One step at the ideal values, by cases. -/
theorem upd1_first {col : BitVec 32} {v : EReal} {st : St1 Ideal} (h : (st.best : EReal) < v) :
    upd1 col (v : Ideal .f32) st = ⟨st.best, st.besti, v, col⟩ := by
  have e : max (st.best : EReal) v = v := max_eq_right h.le
  have c := cmpf_gt_of_lt h
  simp [upd1, Scalar.select, c, e]

/-- A value greater than the second best only becomes the second best. -/
theorem upd1_second {col : BitVec 32} {v : EReal} {st : St1 Ideal} (h : v ≤ (st.best : EReal)) (h' : (st.second : EReal) < v) :
    upd1 col (v : Ideal .f32) st = ⟨v, col, st.best, st.besti⟩ := by
  have e : max (st.second : EReal) v = v := max_eq_right h'.le
  have e' : max (st.best : EReal) v = st.best := max_eq_left h
  have c := cmpf_gt_of_le h
  have c' := cmpf_gt_of_lt h'
  simp [upd1, Scalar.select, c, c', e, e']

/-- A value not greater than the second best changes nothing. -/
theorem upd1_none {col : BitVec 32} {v : EReal} {st : St1 Ideal} (h : v ≤ (st.best : EReal)) (h' : v ≤ (st.second : EReal)) :
    upd1 col (v : Ideal .f32) st = st := by
  have e : max (st.second : EReal) v = st.second := max_eq_left h'
  have e' : max (st.best : EReal) v = st.best := max_eq_left h
  have c := cmpf_gt_of_le h
  have c' := cmpf_gt_of_le h'
  simp [upd1, Scalar.select, c, c', e, e']

/-- A walk that has the first two of the positions seen keeps them over an ascending list of later positions. -/
theorem walk_rest (g : Fin 64 → EReal) (l : List (Fin 64)) : ∀ (A : Fin 64 → Prop) (b s : Fin 64), FirstTwo g A b s →
    (∀ a, A a → ∀ e ∈ l, a < e) → l.Pairwise (· < ·) →
    ∃ b' s', FirstTwo g (fun a => A a ∨ a ∈ l) b' s'
      ∧ l.foldl (fun st e => upd1 (F := Ideal) (BitVec.ofNat 32 e.val) (g e) st) (St1.at g b s) = St1.at g b' s' := by
  induction l with
  | nil => exact fun A b s h _ _ => ⟨b, s, by simpa using h, rfl⟩
  | cons e l ih =>
    intro A b s h hA hl
    have he : ∀ a, A a → a < e := fun a ha => hA a ha e List.mem_cons_self
    have hl' := List.pairwise_cons.mp hl
    have step : ∃ b₁ s₁, FirstTwo g (fun a => A a ∨ a = e) b₁ s₁
        ∧ upd1 (F := Ideal) (BitVec.ofNat 32 e.val) (g e) (St1.at g b s) = St1.at g b₁ s₁ := by
      rcases lt_or_ge (g b) (g e) with hv | hv
      · exact ⟨e, b, h.insert_first he hv, upd1_first hv⟩
      · rcases lt_or_ge (g s) (g e) with hs | hs
        · exact ⟨b, e, h.insert_second he hv hs, upd1_second hv hs⟩
        · exact ⟨b, s, h.insert_none he hs, upd1_none hv hs⟩
    obtain ⟨b₁, s₁, h₁, e₁⟩ := step
    obtain ⟨b₂, s₂, h₂, e₂⟩ := ih _ b₁ s₁ h₁ (fun a ha x hx => ha.elim (fun ha => hA a ha x (List.mem_cons_of_mem _ hx)) fun ha => ha ▸ hl'.1 x hx) hl'.2
    refine ⟨b₂, s₂, ?_, by rw [List.foldl_cons, e₁, e₂]⟩
    have hset : (fun a => (A a ∨ a = e) ∨ a ∈ l) = fun a => A a ∨ a ∈ e :: l := by
      funext a
      rw [List.mem_cons, or_assoc]
    rwa [hset] at h₂

/-- The walk's starting value is −∞. -/
theorem ofBits_neg_inf : (Scalar.ofBits .f32 0xFF800000#32 : Ideal .f32) = (⊥ : EReal) := by
  show Ideal.ofBits .f32 0xFF800000#32 = ⊥
  simp [Ideal.ofBits, Ideal.ieee]

/-- The first two experts start the walk, their logits not −∞. -/
theorem walk_start (g : Fin 64 → EReal) (hg : ∀ e, g e ≠ ⊥) :
    ∃ b s, FirstTwo g (fun a => a = 0 ∨ a = 1) b s
      ∧ upd1 (F := Ideal) (BitVec.ofNat 32 (1 : Fin 64).val) (g 1) (upd1 (BitVec.ofNat 32 (0 : Fin 64).val) (g 0) St1.init) = St1.at g b s := by
  have e₀ : upd1 (F := Ideal) (BitVec.ofNat 32 (0 : Fin 64).val) (g 0) St1.init = ⟨(⊥ : EReal), 0#32, g 0, BitVec.ofNat 32 (0 : Fin 64).val⟩ := by
    have h := upd1_first (col := BitVec.ofNat 32 (0 : Fin 64).val) (v := g 0) (st := St1.init)
      (by show (Scalar.ofBits .f32 0xFF800000#32 : Ideal .f32) < g 0; rw [ofBits_neg_inf]; exact bot_lt_iff_ne_bot.mpr (hg 0))
    rw [h]
    show (⟨(Scalar.ofBits .f32 0xFF800000#32 : Ideal .f32), _, _, _⟩ : St1 Ideal) = _
    rw [ofBits_neg_inf]
    rfl
  rw [e₀]
  rcases lt_or_ge (g 0) (g 1) with h | h
  · exact ⟨1, 0, ⟨.inr rfl, .inl rfl, by decide, fun e he hne => .inl ((he.resolve_right hne) ▸ h), fun e he h₁ h₂ => (he.elim h₂ h₁).elim⟩, upd1_first h⟩
  · exact ⟨0, 1, ⟨.inl rfl, .inr rfl, by decide, fun e he hne => (he.resolve_left hne) ▸ .of_le h (by decide), fun e he h₁ h₂ => (he.elim h₁ h₂).elim⟩,
      upd1_second h (bot_lt_iff_ne_bot.mpr (hg 1))⟩

/-- The walk over all experts ends with the first two of them. -/
theorem walk_eq (g : Fin 64 → EReal) (hg : ∀ e, g e ≠ ⊥) :
    ∃ b s, FirstTwo g (fun _ => True) b s ∧ walk1 (F := Ideal) g (List.finRange 64) = St1.at g b s := by
  obtain ⟨b₁, s₁, h₁, e₁⟩ := walk_start g hg
  have hl : List.finRange 64 = 0 :: 1 :: (List.finRange 64).drop 2 := by decide
  have hp : (List.finRange 64).Pairwise (· < ·) := List.pairwise_lt_finRange 64
  rw [hl] at hp
  have hp₀ := List.pairwise_cons.mp hp
  have hp₁ := List.pairwise_cons.mp hp₀.2
  obtain ⟨b, s, h, e⟩ := walk_rest g ((List.finRange 64).drop 2) _ b₁ s₁ h₁
    (fun a ha x hx => ha.elim (fun ha => ha ▸ hp₀.1 x (List.mem_cons_of_mem _ hx)) fun ha => ha ▸ hp₁.1 x hx) hp₁.2
  refine ⟨b, s, ?_, ?_⟩
  · have hset : (fun a : Fin 64 => (a = 0 ∨ a = 1) ∨ a ∈ (List.finRange 64).drop 2) = fun _ => True := by
      funext a
      have ha : a ∈ List.finRange 64 := List.mem_finRange a
      rw [hl, List.mem_cons, List.mem_cons, ← or_assoc] at ha
      exact eq_true ha
    rwa [hset] at h
  · unfold walk1
    rw [hl, List.foldl_cons, List.foldl_cons]
    rw [e₁]
    exact e

/-! ## The sort -/

/-- Inserting a position smaller than all of a list in the order keeps the order. -/
theorem pairwise_insert {n : ℕ} (g : Fin n → EReal) (a : Fin n) (l : List (Fin n)) (hl : l.Pairwise (Better g)) (ha : ∀ e ∈ l, a < e) :
    (insertBefore (fun k k' => decide (g k' < g k)) a l).Pairwise (Better g) := by
  induction l with
  | nil => exact List.pairwise_singleton _ _
  | cons b l ih =>
    have hb := List.pairwise_cons.mp hl
    unfold insertBefore
    split
    · rename_i h
      refine List.pairwise_cons.mpr ⟨fun e he => ?_, ih hb.2 fun e he => ha e (List.mem_cons_of_mem _ he)⟩
      rcases List.mem_cons.mp ((perm_insertBefore _ a l).mem_iff.mp he) with rfl | he
      · exact .inl (of_decide_eq_true h)
      · exact hb.1 e he
    · rename_i h
      have hba : g b ≤ g a := not_lt.mp fun hlt => h (decide_eq_true hlt)
      refine List.pairwise_cons.mpr ⟨fun e he => .of_le ?_ (ha e he), hl⟩
      rcases List.mem_cons.mp he with rfl | he
      · exact hba
      · exact (hb.1 e he).le.trans hba

/-- The stable descending sort of an ascending list is in the order. -/
theorem pairwise_sort {n : ℕ} (g : Fin n → EReal) (l : List (Fin n)) (hl : l.Pairwise (· < ·)) :
    (stableSort (fun k k' => decide (g k' < g k)) l).Pairwise (Better g) := by
  induction l with
  | nil => exact List.Pairwise.nil
  | cons a l ih =>
    have ha := List.pairwise_cons.mp hl
    unfold stableSort
    exact pairwise_insert g a _ (ih ha.2) fun e he => ha.1 e ((perm_stableSort _ l).mem_iff.mp he)

/-- The order of the sorted positions. -/
theorem sorted_better {n : ℕ} (g : Fin n → EReal) (i j : Fin n) (hij : i < j) :
    Better g (sortedFrom (fun k k' => decide (g k' < g k)) i) (sortedFrom (fun k k' => decide (g k' < g k)) j) :=
  List.pairwise_iff_get.mp (pairwise_sort g (List.finRange n) (List.pairwise_lt_finRange n)) _ _ hij

/-- The sort puts the first two in front. -/
theorem sorted_firstTwo (g : Fin 64 → EReal) :
    FirstTwo g (fun _ => True) (sortedFrom (fun k k' => decide (g k' < g k)) 0) (sortedFrom (fun k k' => decide (g k' < g k)) 1) where
  memb := trivial
  mems := trivial
  ne := fun h => (by decide : (0 : Fin 64) ≠ 1) (sortedFrom_injective _ h)
  first e _ hne := by
    obtain ⟨k, rfl⟩ := sortedFrom_surjective (fun k k' => decide (g k' < g k)) e
    refine sorted_better g 0 k (Fin.pos_iff_ne_zero.mpr ?_)
    rintro rfl
    exact hne rfl
  next e _ hne hne' := by
    obtain ⟨k, rfl⟩ := sortedFrom_surjective (fun k k' => decide (g k' < g k)) e
    refine sorted_better g 1 k ?_
    have h₀ : k ≠ 0 := by rintro rfl; exact hne rfl
    have h₁ : k ≠ 1 := by rintro rfl; exact hne' rfl
    omega

/-- The walk ends with the first two positions of the sort. -/
theorem walk_sorted (g : Fin 64 → EReal) (hg : ∀ e, g e ≠ ⊥) :
    walk1 (F := Ideal) g (List.finRange 64)
      = St1.at g (sortedFrom (fun k k' => decide (g k' < g k)) 0) (sortedFrom (fun k k' => decide (g k' < g k)) 1) := by
  obtain ⟨b, s, h, e⟩ := walk_eq g hg
  obtain ⟨hb, hs⟩ := h.unique (sorted_firstTwo g)
  rw [e, hb, hs]

end Cert.Proof.Top2

end
-- ==== Proof.Dots.lean ====
/-
  The logits of a token, at the ideal values: both programs multiply the same entries. With both arguments finite the
  logits are real numbers. And the reference's top-k read at one token: the first positions of the stable descending
  sort of that token's logits.
-/
module

public import proofs.«01_k».proof.Proof.TopTwo
public import proofs.«01_k».proof.Proof.Gen.ReferenceIdeal
public import proofs.«01_k».proof.Proof.Gen.Pre_finite
public import Idealize.ShloMosaic.Lib.MatmulPlain
public import Idealize.ShloMosaic.Lib.StackMember
public import Idealize.ShloMosaic.Lib.ReduceAll
public import Idealize.ShloMosaic.Lib.IdealHost
public import Idealize.ShloMosaic.Lib.WordCmp
public import Idealize.ShloMosaic.Lib.Pipeline.Value

@[expose] public section

set_option maxRecDepth 16384

noncomputable section

namespace Cert.Proof.Top2

open Idealize.ShloMosaic Idealize.ShloMosaic.ValueIdx
open Cert.KernelIdeal (S16384x2048 S64x2048 S32x64x512 S16384x2 S64x1024 S1024x2048)
open Cert.ReferenceIdeal (S16384x64 S2048x64)

/-- The logits of token `n`. -/
def dotRow (x : S16384x2048.Idx → EReal) (W : S64x2048.Idx → EReal) (n : Fin 16384) : Fin 64 → EReal :=
  fun e => ∑ k : Fin 2048, x (ix2 n k) * W (ix2 e k)

/-- The kernel's logits, at the place of token `n` and expert `e`. -/
theorem logits_apply (x : S16384x2048.Idx → EReal) (W : S64x2048.Idx → EReal) (n : Fin 16384) (e : Fin 64) :
    logits (F := Ideal) x W (ix3 (⟨n.val / 512, Nat.div_lt_of_lt_mul n.isLt⟩ : Fin 32) e (⟨n.val % 512, Nat.mod_lt _ (by decide)⟩ : Fin 512))
      = dotRow x W n e := by
  have hn := n.isLt
  unfold logits Cert.KernelIdeal.Gen.k0_pay1
  refine (Ideal.matmul_transposedRhs_apply (M := 64) (K := 2048) (N := 1024) (φ₁ := .f32) (φ₂ := .f32) none W _ _ _ _).trans ?_
  have h0 : (constant (F := Ideal) S64x1024 .f32 0x00000000#32) (ix2 e
      (⟨512 * (n.val / 512 % 2) + n.val % 512, by omega⟩ : Fin 1024)) = (0 : EReal) := Ideal.ofBits_zero_f32
  refine (congrArg (· + _) h0).trans ?_
  rw [zero_add]
  refine Finset.sum_congr rfl fun k _ => ?_
  rw [mul_comm]
  refine congrArg (· * _) ?_
  unfold xblk
  refine congrArg x (congrArg (ix2 · k) (Fin.ext ?_))
  show 1024 * (n.val / 512 / 2) + (512 * (n.val / 512 % 2) + n.val % 512) = n.val
  omega

attribute [local instance] Cert.ReferenceIdeal.Gen.facts

/-- The reference's logits, at token `n` and expert `e`. -/
theorem ref_dot (x : S16384x2048.Idx → EReal) (W : S64x2048.Idx → EReal) (h : S64x2048.Transposes [1, 0] S2048x64) (n : Fin 16384) (e : Fin 64) :
    Host.dotGeneral (F := Ideal) (φ₁ := .f32) (φ₂ := .f32) Cert.ReferenceIdeal.dot_S16384x2048_S2048x64_S16384x64_1_0_0_1_n_n none x (transpose S2048x64 [1, 0] W h) (ix2 n e)
      = dotRow x W n e := by
  refine (StackMember.dotGeneral_plain_apply (m := 16384) (k := 2048) (n := 64) (φ₁ := .f32) (φ₂ := .f32) none x (transpose S2048x64 [1, 0] W h) n e).trans ?_
  refine Finset.sum_congr rfl fun k _ => congrArg (_ * ·) ?_
  refine transpose_apply [1, 0] W h (ix2 k e) (ix2 e k) fun a => ?_
  match a with
  | ⟨0, _⟩ => rfl
  | ⟨1, _⟩ => rfl

/-! ## Finite arguments -/

/-- An extended real whose absolute value compares below +∞ is a real number. -/
theorem real_of_abs_lt {x : EReal} (h : FloatOps.cmpf (F := Ideal) (φ := .f32) .olt (FloatOps.hostAbsf (F := Ideal) (φ := .f32) x)
    (FloatOps.ofBits (F := Ideal) .f32 0x7F800000#32) = 1#1) : ∃ r : ℝ, x = r := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hn
    rw [decide_eq_false hn] at h'
    exact absurd h' (by decide)
  rw [max_lt_iff] at hlt
  refine ⟨x.toReal, (EReal.coe_toReal hlt.1.ne ?_).symm⟩
  rintro rfl
  exact hlt.2.ne rfl

attribute [local instance] Cert.Pre_finite.Gen.facts

/-- The precondition says that every entry of the two arguments is a real number. -/
theorem finite_real {x : S16384x2048.Idx → EReal} {W : S64x2048.Idx → EReal}
    (h : Cert.Pre_finite.fn (F := Ideal) x W = fun _ => 1#1) : (∀ i, ∃ r : ℝ, x i = r) ∧ ∀ i, ∃ r : ℝ, W i = r := by
  have h0 := congrFun h ix0
  dsimp only [Cert.Pre_finite.fn] at h0
  have h1 := IntOp.andi_eq_one.mp h0
  exact ⟨fun i => real_of_abs_lt (Host.reduce_andi_all _ _ _ _ _ h1.1 i), fun i => real_of_abs_lt (Host.reduce_andi_all _ _ _ _ _ h1.2 i)⟩

/-- With real arguments the logits are real. -/
theorem dotRow_real {x : S16384x2048.Idx → EReal} {W : S64x2048.Idx → EReal} (hx : ∀ i, ∃ r : ℝ, x i = r) (hW : ∀ i, ∃ r : ℝ, W i = r)
    (n : Fin 16384) (e : Fin 64) : ∃ r : ℝ, dotRow x W n e = r := by
  choose xr hxr using hx
  choose wr hwr using hW
  refine ⟨∑ k : Fin 2048, xr (ix2 n k) * wr (ix2 e k), ?_⟩
  unfold dotRow
  refine (Finset.sum_congr rfl fun k _ => ?_).trans (map_sum (⟨⟨Real.toEReal, EReal.coe_zero⟩, EReal.coe_add⟩ : ℝ →+ EReal) (fun k => xr (ix2 n k) * wr (ix2 e k)) Finset.univ).symm
  rw [hxr, hwr]
  exact (EReal.coe_mul _ _).symm

/-! ## The reference's top-k at a token -/

/-- The position that the descending sort of row `n` puts at `k`. -/
abbrev pick (g : Fin 64 → EReal) (k : Fin 64) : Fin 64 := sortedFrom (fun a b => decide (g b < g a)) k

/-- Row `n` at another position of the sorted axis. -/
theorem along_eq (n : Fin 16384) (e q : Fin 64) : (ix2 n e : S16384x64.Idx).along (1 : Fin 2) q = ix2 n q := by
  funext a
  match a with
  | ⟨0, _⟩ => rfl
  | ⟨1, _⟩ => rfl

/-- The top-k's comparison along row `n`. -/
theorem before_row (v : S16384x64.Idx → EReal) (n : Fin 16384) (e : Fin 64) :
    (fun a b : Fin 64 => FloatOps.cmpfTotal (F := Ideal) (φ := .f32) .gt (v ((ix2 n e : S16384x64.Idx).along (1 : Fin 2) a))
      (v ((ix2 n e : S16384x64.Idx).along (1 : Fin 2) b)) == 1#1) = fun a b => decide (v (ix2 n b) < v (ix2 n a)) := by
  funext a b
  rw [along_eq, along_eq]
  show (BitVec.ofBool (decide (v (ix2 n b) < v (ix2 n a))) == 1#1) = _
  cases decide (v (ix2 n b) < v (ix2 n a)) <;> rfl

/-- Where the sort of row `n` reads for position `e`. -/
theorem sort_read (v : S16384x64.Idx → EReal) (n : Fin 16384) (e : Fin 64) :
    (ix2 n e : S16384x64.Idx).along (1 : Fin 2) (sortedFrom
      (fun a b : Fin 64 => FloatOps.cmpfTotal (F := Ideal) (φ := .f32) .gt (v ((ix2 n e : S16384x64.Idx).along (1 : Fin 2) a))
        (v ((ix2 n e : S16384x64.Idx).along (1 : Fin 2) b)) == 1#1) e) = ix2 n (pick (fun e => v (ix2 n e)) e) := by
  rw [before_row]
  exact along_eq n e _

/-- The sort of the logits with their expert numbers, read at token `n` and position `e`. -/
theorem sort_apply {β : Type} (v : S16384x64.Idx → EReal) (y : S16384x64.Idx → β) (n : Fin 16384) (e : Fin 64) :
    (Host.sort2 S16384x64 1 (fun l r => FloatOps.cmpfTotal (F := Ideal) (φ := .f32) .gt l.1 r.1) v y).1 (ix2 n e)
        = v (ix2 n (pick (fun e => v (ix2 n e)) e))
      ∧ (Host.sort2 S16384x64 1 (fun l r => FloatOps.cmpfTotal (F := Ideal) (φ := .f32) .gt l.1 r.1) v y).2 (ix2 n e)
        = y (ix2 n (pick (fun e => v (ix2 n e)) e)) := by
  rw [← sort_read v n e]
  exact ⟨rfl, rfl⟩

/-- The reference's top-k at token `n`: the logit and the number of the expert that the sort puts at `k`. -/
theorem topK_apply (v : S16384x64.Idx → EReal) (h : S16384x64.Slices (fun _ => 0) S16384x2) (n : Fin 16384) (k : Fin 2) (e : Fin 64) (he : e.val = k.val) :
    (Host.topK S16384x2 1 (FloatOps.cmpfTotal (F := Ideal) (φ := .f32) .gt) v h).1 (ix2 n k)
        = v (ix2 n (pick (fun e => v (ix2 n e)) e))
      ∧ (Host.topK S16384x2 1 (FloatOps.cmpfTotal (F := Ideal) (φ := .f32) .gt) v h).2 (ix2 n k)
        = BitVec.ofNat 32 (pick (fun e => v (ix2 n e)) e).val := by
  have hk : ∀ a : Fin S16384x64.rank, ((ix2 n e : S16384x64.Idx) a).val = 0 + ((ix2 n k : S16384x2.Idx) (a.cast rfl)).val := by
    intro a
    match a with
    | ⟨0, _⟩ => exact (Nat.zero_add _).symm
    | ⟨1, _⟩ => exact he.trans (Nat.zero_add _).symm
  unfold Host.topK
  dsimp only
  rw [extractStridedSlice_apply _ _ _ _ _ hk, extractStridedSlice_apply _ _ _ _ _ hk, (sort_apply v _ n e).1, (sort_apply v _ n e).2]
  refine ⟨rfl, ?_⟩
  rw [dif_pos (by decide : (1 : ℕ) < 2)]
  exact iotaInDim_apply _ _ _

end Cert.Proof.Top2

end
-- ==== Proof.Softmax.lean ====
/-
  The softmax of two logits, at the ideal values. The reference takes it over the two picked logits with the greater one
  subtracted; the kernel computes the greater's share as `1 / (1 + exp (second - best))` and the other as the rest.
-/
module

public import proofs.«01_k».proof.Proof.Dots
public import proofs.«01_k».proof.Proof.Gen.ReferenceIdeal
public import Idealize.ShloMosaic.Lib.Pointwise.Reduce

@[expose] public section

set_option maxRecDepth 16384

noncomputable section

namespace Cert.Proof.Top2

open Idealize.ShloMosaic hiding ix1 ix2 ix3
open Idealize.ShloMosaic.ValueIdx
open Cert.ReferenceIdeal (S16384x2 S16384 S16384x1 S_)

attribute [local instance] Cert.ReferenceIdeal.Gen.facts

open Cert.ReferenceIdeal.Facts₀ Cert.ReferenceIdeal.Facts

/-! ## The reference's terms -/

variable {F : FTy → Type} [FloatOps F]

/-- A value per token, spread over the two columns. -/
def spread (y : FVec F S16384 .f32) : FVec F S16384x2 .f32 :=
  broadcastInDim S16384x2 ![0, 1] bcast_S16384x1_S16384x2_0_1 (broadcastInDim S16384x1 ![0] bcast_S16384_S16384x1_0 y)

/-- The greatest of each row. -/
def rowMax (T : FVec F S16384x2 .f32) : FVec F S16384 .f32 :=
  maximumf (broadcastInDim S16384 ![] bcast_S_S16384 (constant S_ .f32 0xFF800000#32))
    (Host.reduce FloatOps.maximumf T (constant S_ .f32 0xFF800000#32) reducesTo_S16384x2_S16384_d1 h_S_)

/-- The exponentials of the rows, their greatest subtracted. -/
def rowExp (T : FVec F S16384x2 .f32) : FVec F S16384x2 .f32 := Host.exp (subf T (spread (rowMax T)))

/-- The softmax of each row. -/
def rowSoftmax (T : FVec F S16384x2 .f32) : FVec F S16384x2 .f32 :=
  Host.divf (rowExp T) (spread (Host.reduceAdd (rowExp T) (constant S_ .f32 0x00000000#32) reducesTo_S16384x2_S16384_d1 h_S_))

/-! ## Their values -/

/-- The value spread over the columns, read at a token. -/
theorem spread_apply (y : FVec F S16384 .f32) (n : Fin 16384) (k : Fin 2) : spread y (ix2 n k) = y (ix1 n) := by
  unfold spread
  refine (broadcastInDim_apply _ _ _ (ix2 n k) (ix2 n (0 : Fin 1)) fun a => ?_).trans
    (broadcastInDim_apply _ _ _ (ix2 n (0 : Fin 1)) (ix1 n) fun a => ?_)
  · match a with
    | ⟨0, _⟩ => rfl
    | ⟨1, _⟩ => rfl
  · match a with
    | ⟨0, _⟩ => rfl

/-- The greatest of a row whose first entry is the greater. -/
theorem rowMax_apply (T : S16384x2.Idx → EReal) (n : Fin 16384) (h : T (ix2 n (1 : Fin 2)) ≤ T (ix2 n (0 : Fin 2))) :
    rowMax (F := Ideal) T (ix1 n) = T (ix2 n (0 : Fin 2)) := by
  have e : Host.reduce (FloatOps.maximumf (F := Ideal) (φ := .f32)) T (constant S_ .f32 0xFF800000#32) reducesTo_S16384x2_S16384_d1 h_S_ (ix1 n)
      = T (ix2 n (0 : Fin 2)) := by
    rw [Host.reduce_eq_fold]
    refine (Shape.ReducesTo.fold_fiber_r2_a1 (n0 := 16384) (n1 := 2) _ _ _ _ _).trans ?_
    have hb : (constant (F := Ideal) S_ .f32 0xFF800000#32) (Shape.Idx.first h_S_) = (⊥ : EReal) := ofBits_neg_inf
    rw [hb]
    show max (T (ix2 n (0 : Fin 2))) (max (T (ix2 n (1 : Fin 2))) ⊥) = _
    rw [max_bot_right, max_eq_left h]
  show max (Ideal.ofBits .f32 0xFF800000#32) _ = _
  rw [e, show Ideal.ofBits .f32 0xFF800000#32 = ⊥ from ofBits_neg_inf, max_bot_left]

section Row

variable (T : S16384x2.Idx → EReal) (n : Fin 16384) (B S : ℝ) (h0 : T (ix2 n (0 : Fin 2)) = B) (h1 : T (ix2 n (1 : Fin 2)) = S) (hle : S ≤ B)

include h0 h1 hle

/-- The exponential of the greater: one. -/
theorem rowExp_zero : rowExp (F := Ideal) T (ix2 n (0 : Fin 2)) = ((1 : ℝ) : EReal) := by
  show Ideal.exp (T (ix2 n (0 : Fin 2)) - spread (F := Ideal) (rowMax (F := Ideal) T) (ix2 n (0 : Fin 2))) = _
  rw [spread_apply, rowMax_apply T n (by rw [h0, h1]; exact EReal.coe_le_coe_iff.mpr hle), h0, ← EReal.coe_sub, sub_self, Ideal.exp_coe, Real.exp_zero]

/-- The exponential of the other. -/
theorem rowExp_one : rowExp (F := Ideal) T (ix2 n (1 : Fin 2)) = (Real.exp (S - B) : EReal) := by
  show Ideal.exp (T (ix2 n (1 : Fin 2)) - spread (F := Ideal) (rowMax (F := Ideal) T) (ix2 n (1 : Fin 2))) = _
  rw [spread_apply, rowMax_apply T n (by rw [h0, h1]; exact EReal.coe_le_coe_iff.mpr hle), h0, h1, ← EReal.coe_sub, Ideal.exp_coe]

/-- The normalizer. -/
theorem rowSum (k : Fin 2) : spread (F := Ideal) (Host.reduceAdd (F := Ideal) (φ := .f32) (rowExp (F := Ideal) T) (constant S_ .f32 0x00000000#32) reducesTo_S16384x2_S16384_d1 h_S_) (ix2 n k)
    = ((1 + Real.exp (S - B) : ℝ) : EReal) := by
  rw [spread_apply, hostReduceAdd_apply]
  refine (Ideal.hostReduceAdd_r2_a1 (n0 := 16384) (n1 := 2) _ _ _ _).trans ?_
  have hz : (constant (F := Ideal) S_ .f32 0x00000000#32) (Shape.Idx.first h_S_) = (0 : EReal) := Ideal.ofBits_zero_f32
  rw [hz, zero_add, Fin.sum_univ_two]
  refine (congrArg₂ (· + ·) (rowExp_zero T n B S h0 h1 hle) (rowExp_one T n B S h0 h1 hle)).trans ?_
  exact (EReal.coe_add _ _).symm

/-- The shares of the two. -/
theorem rowSoftmax_zero : rowSoftmax (F := Ideal) T (ix2 n (0 : Fin 2)) = ((1 / (1 + Real.exp (S - B)) : ℝ) : EReal) := by
  unfold rowSoftmax
  rw [hostDivf_apply]
  refine (congrArg₂ Ideal.div (rowExp_zero T n B S h0 h1 hle) (rowSum T n B S h0 h1 hle 0)).trans ?_
  rw [Ideal.div_coe (by positivity), ← EReal.coe_mul, one_mul]

/-- The share of the other. -/
theorem rowSoftmax_one : rowSoftmax (F := Ideal) T (ix2 n (1 : Fin 2)) = ((Real.exp (S - B) / (1 + Real.exp (S - B)) : ℝ) : EReal) := by
  unfold rowSoftmax
  rw [hostDivf_apply]
  refine (congrArg₂ Ideal.div (rowExp_one T n B S h0 h1 hle) (rowSum T n B S h0 h1 hle 1)).trans ?_
  rw [Ideal.div_coe (by positivity), ← EReal.coe_mul, mul_one_div]

end Row

/-! ## The kernel's -/

section Walk

variable (g : Fin 64 → EReal) (b s : Fin 64) (B S : ℝ) (hb : g b = B) (hs : g s = S)

include hb hs

/-- The kernel's weight of the greater. -/
theorem w0_at : (St1.at g b s).w0 = ((1 / (1 + Real.exp (S - B)) : ℝ) : EReal) := by
  show Ideal.div (Ideal.ofBits .f32 0x3F800000#32) (Ideal.ofBits .f32 0x3F800000#32 + Ideal.exp (g s - g b)) = _
  rw [Ideal.ofBits_one_f32, hb, hs, ← EReal.coe_sub, Ideal.exp_coe, ← EReal.coe_one, ← EReal.coe_add, Ideal.div_coe (by positivity), ← EReal.coe_mul, one_mul]

/-- The kernel's weight of the other. -/
theorem w1_at : FloatOps.subf (one1 (F := Ideal)) (St1.at g b s).w0 = ((Real.exp (S - B) / (1 + Real.exp (S - B)) : ℝ) : EReal) := by
  show Ideal.ofBits .f32 0x3F800000#32 - ((St1.at g b s).w0 : EReal) = _
  rw [w0_at g b s B S hb hs, Ideal.ofBits_one_f32, ← EReal.coe_one, ← EReal.coe_sub]
  congr 1
  have : (1 + Real.exp (S - B)) ≠ 0 := by positivity
  field_simp
  ring

end Walk

/-- An expert's number goes through its float and back. -/
theorem fptosi_sitofp (e : Fin 64) :
    FloatOps.fptosi (F := Ideal) (φ := .f32) 32 (FloatOps.sitofp (F := Ideal) .f32 (BitVec.ofNat 32 e.val)) = BitVec.ofNat 32 e.val := by
  have he := e.isLt
  show Ideal.fptosi 32 (((BitVec.ofNat 32 e.val).toInt : ℝ) : EReal) = _
  have ht : (BitVec.ofNat 32 e.val).toInt = (e.val : ℤ) := by
    rw [BitVec.toInt_ofNat', Int.bmod_eq_of_le] <;> omega
  rw [ht, Ideal.fptosi, Ideal.toIntClamped_coe, if_pos (by positivity), Int.floor_intCast,
    min_eq_right (by simp; omega), max_eq_right (by simp)]
  exact BitVec.ofInt_natCast _ _

end Cert.Proof.Top2

end
-- ==== Proof.Equal.lean ====
/-
  The two programs compute the same, at the ideal values and for finite arguments: the same two experts and the same two
  weights for every token. With it the frames of the reference and the value claim.
-/
module

public import proofs.«01_k».proof.Proof.Main
public import proofs.«01_k».proof.Proof.Frames
public import proofs.«01_k».proof.Proof.Softmax
public import proofs.«01_k».proof.Proof.Gen.ReferenceIdeal.Run
public import Idealize.ShloMosaic.Lib.Quiescent

@[expose] public section

set_option maxRecDepth 16384

noncomputable section

namespace Cert.Proof.Top2

open Idealize.ShloMosaic hiding ix1 ix2 ix3 eq_ix2
open Idealize.ShloMosaic.ValueIdx Idealize.SL.Sem
open Cert.KernelIdeal (S16384x2048 S64x2048 S32x64x512 S16384x2 S4x16384 S2x16384)
open Cert.ReferenceIdeal (S16384x64 S2048x64)

attribute [local instance] Cert.ReferenceIdeal.Gen.facts Cert.KernelIdeal.Gen.facts Cert.Pre_finite.Gen.facts

/-! ## The kernel's results at a token -/

/-- A slice of two rows, transposed. -/
theorem cut_apply (R : S4x16384.Idx → EReal) (off : ℕ) (h : S4x16384.Slices ![off, 0] S2x16384) (h' : S2x16384.Transposes [1, 0] S16384x2)
    (n : Fin 16384) (k : Fin 2) (r : Fin 4) (hr : r.val = off + k.val) :
    transpose S16384x2 [1, 0] (extractStridedSlice S2x16384 ![off, 0] R h) h' (ix2 n k) = R (ix2 r n) := by
  refine (transpose_apply [1, 0] _ h' (ix2 n k) (ix2 k n) fun a => ?_).trans
    (extractStridedSlice_apply _ R h (ix2 k n) (ix2 r n) fun a => ?_)
  · match a with
    | ⟨0, _⟩ => rfl
    | ⟨1, _⟩ => rfl
  · match a with
    | ⟨0, _⟩ => exact hr
    | ⟨1, _⟩ => exact (Nat.zero_add _).symm

variable {x : S16384x2048.Idx → EReal} {W : S64x2048.Idx → EReal}

/-- With finite arguments a token's column of the table is what the walk leaves that has the sort's first two. -/
theorem resAll_apply (hx : ∀ i, ∃ r : ℝ, x i = r) (hW : ∀ i, ∃ r : ℝ, W i = r) (n : Fin 16384) (r : Fin 4) :
    resAll (F := Ideal) (logits (F := Ideal) x W) (ix2 r n)
      = (St1.at (dotRow x W n) (pick (dotRow x W n) 0) (pick (dotRow x W n) 1)).out r := by
  have hg : (fun e : Fin 64 => logits (F := Ideal) x W (ix3 (⟨n.val / 512, Nat.div_lt_of_lt_mul n.isLt⟩ : Fin 32) e (⟨n.val % 512, Nat.mod_lt _ (by decide)⟩ : Fin 512)))
      = dotRow x W n := funext fun e => logits_apply x W n e
  have hw := walk_sorted (dotRow x W n) fun e he => by
    obtain ⟨q, hq⟩ := dotRow_real hx hW n e
    rw [hq] at he
    exact EReal.coe_ne_bot q he
  rw [← hw, ← hg]
  rfl

/-- The kernel's experts. -/
theorem experts_apply (hx : ∀ i, ∃ r : ℝ, x i = r) (hW : ∀ i, ∃ r : ℝ, W i = r) (n : Fin 16384) (k : Fin 2) (e : Fin 64) (he : e.val = k.val) :
    tabExperts (F := Ideal) (resAll (logits (F := Ideal) x W)) (ix2 n k) = BitVec.ofNat 32 (pick (dotRow x W n) e).val := by
  unfold tabExperts
  show FloatOps.fptosi (F := Ideal) (φ := .f32) 32 _ = _
  rw [cut_apply _ 0 _ _ n k (k.castLE (by decide)) (by simp), resAll_apply hx hW]
  match k, e, he with
  | ⟨0, _⟩, ⟨0, _⟩, _ => exact fptosi_sitofp _
  | ⟨1, _⟩, ⟨1, _⟩, _ => exact fptosi_sitofp _

/-- The kernel's weights. -/
theorem weights_apply (hx : ∀ i, ∃ r : ℝ, x i = r) (hW : ∀ i, ∃ r : ℝ, W i = r) (n : Fin 16384) (k : Fin 2) (r : Fin 4) (hr : r.val = 2 + k.val) :
    tabWeights (F := Ideal) (resAll (logits (F := Ideal) x W)) (ix2 n k)
      = (St1.at (dotRow x W n) (pick (dotRow x W n) 0) (pick (dotRow x W n) 1)).out r := by
  unfold tabWeights
  rw [cut_apply _ 2 _ _ n k r hr, resAll_apply hx hW]

/-! ## The reference's -/

/-- The reference's logits. -/
abbrev refLogits (x : S16384x2048.Idx → EReal) (W : S64x2048.Idx → EReal) : S16384x64.Idx → EReal :=
  Host.dotGeneral (F := Ideal) (φ₁ := .f32) (φ₂ := .f32) Cert.ReferenceIdeal.dot_S16384x2048_S2048x64_S16384x64_1_0_0_1_n_n none x
    (transpose S2048x64 [1, 0] W Cert.ReferenceIdeal.Facts₀.transposes_S64x2048_S2048x64_1_0)

/-- The reference's top-k. -/
abbrev refTop (x : S16384x2048.Idx → EReal) (W : S64x2048.Idx → EReal) : (S16384x2.Idx → EReal) × IVec S16384x2 32 :=
  Host.topK S16384x2 1 (FloatOps.cmpfTotal (F := Ideal) (φ := .f32) .gt) (refLogits x W) Cert.ReferenceIdeal.Facts₀.sliceFits_S16384x64_S16384x2

/-- The reference's top-k at token `n`, by the token's logits. -/
theorem refTop_apply (x : S16384x2048.Idx → EReal) (W : S64x2048.Idx → EReal) (n : Fin 16384) (k : Fin 2) (e : Fin 64) (he : e.val = k.val) :
    (refTop x W).1 (ix2 n k) = dotRow x W n (pick (dotRow x W n) e)
      ∧ (refTop x W).2 (ix2 n k) = BitVec.ofNat 32 (pick (dotRow x W n) e).val := by
  have h := topK_apply (refLogits x W) Cert.ReferenceIdeal.Facts₀.sliceFits_S16384x64_S16384x2 n k e he
  have hg : (fun e => refLogits x W (ix2 n e)) = dotRow x W n := funext fun e => ref_dot x W _ n e
  rw [hg] at h
  exact ⟨h.1.trans (ref_dot x W _ n _), h.2⟩

/-! ## Equal -/

/-- The experts are the same. -/
theorem experts_eq (hx : ∀ i, ∃ r : ℝ, x i = r) (hW : ∀ i, ∃ r : ℝ, W i = r) :
    (refTop x W).2 = tabExperts (F := Ideal) (resAll (logits (F := Ideal) x W)) := by
  funext j
  obtain ⟨n, k, rfl⟩ : ∃ (n : Fin 16384) (k : Fin 2), j = ix2 n k := ⟨j 0, j 1, eq_ix2 j⟩
  rw [(refTop_apply x W n k (k.castLE (by decide)) rfl).2, experts_apply hx hW n k (k.castLE (by decide)) rfl]

/-- The weights are the same. -/
theorem weights_eq (hx : ∀ i, ∃ r : ℝ, x i = r) (hW : ∀ i, ∃ r : ℝ, W i = r) :
    rowSoftmax (F := Ideal) (refTop x W).1 = tabWeights (F := Ideal) (resAll (logits (F := Ideal) x W)) := by
  funext j
  obtain ⟨n, k, rfl⟩ : ∃ (n : Fin 16384) (k : Fin 2), j = ix2 n k := ⟨j 0, j 1, eq_ix2 j⟩
  obtain ⟨B, hB⟩ := dotRow_real hx hW n (pick (dotRow x W n) 0)
  obtain ⟨S, hS⟩ := dotRow_real hx hW n (pick (dotRow x W n) 1)
  have hle : S ≤ B := by
    have h := (sorted_better (dotRow x W n) 0 1 (by decide)).le
    rw [hB, hS] at h
    exact EReal.coe_le_coe_iff.mp h
  have h0 := (refTop_apply x W n 0 0 rfl).1.trans hB
  have h1 := (refTop_apply x W n 1 1 rfl).1.trans hS
  match k with
  | ⟨0, _⟩ => exact (rowSoftmax_zero _ n B S h0 h1 hle).trans ((w0_at _ _ _ B S hB hS).symm.trans (weights_apply hx hW n 0 2 rfl).symm)
  | ⟨1, _⟩ => exact (rowSoftmax_one _ n B S h0 h1 hle).trans ((w1_at _ _ _ B S hB hS).symm.trans (weights_apply hx hW n 1 3 rfl).symm)

/-! ## The claims -/

/-- The reference terminates without fault, its arguments unchanged; it has no semaphores. -/
theorem frame_reference : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- For finite arguments the kernel's results are the reference's. -/
theorem algebraic : @Cert.algebraic_KernelIdeal_ReferenceIdeal_pre_finite Cert.KernelIdeal.Gen.facts Cert.ReferenceIdeal.Gen.facts Cert.Pre_finite.Gen.facts := by
  intro m ρ m' ρ' hpre hargs
  refine ⟨fun d => tabExperts (tab m d), fun d => tabWeights (tab m d), ?_, ?_⟩
  · exact (θ_run Cert.KernelIdeal.defs _ _).mono (fun r (h : QC m r) d => ⟨(h.1 d).2.2.1, (h.1 d).2.2.2, (h.1 d).1, (h.1 d).2.1⟩) (run_main (F := Ideal) m ρ)
  · refine (θ_run Cert.ReferenceIdeal.defs _ _).mono (fun r h d => ?_) (Cert.ReferenceIdeal.Value.run (F := Ideal) m' ρ')
    have hr := finite_real (hpre d)
    have ha := hargs d
    have h := h d
    refine ⟨h.1.trans ?_, h.2.1.trans ?_, h.2.2⟩
    · rw [ha.1, ha.2]
      exact experts_eq hr.1 hr.2
    · rw [ha.1, ha.2]
      exact weights_eq hr.1 hr.2

end Cert.Proof.Top2

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims of the statement: every run ends with its semaphores at zero, and on finite inputs the kernel and the reference give the same results. -/
theorem claim : Cert.Claim := ⟨Cert.Kernel.Gen.facts, Cert.KernelIdeal.Gen.facts, Cert.ReferenceIdeal.Gen.facts, Cert.Pre_finite.Gen.facts,
  Top2.frame_kernel, Top2.frame_ideal, fun m ρ _ => Top2.frame_ideal m ρ trivial, Top2.frame_reference,
  fun m ρ _ => Top2.frame_reference m ρ trivial, trivial, Top2.algebraic⟩

end Cert.Proof

end
